-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S25x64x64x64 : Shape := ⟨4, ![25, 64, 64, 64]⟩
abbrev S64x384x1x1 : Shape := ⟨4, ![64, 384, 1, 1]⟩
abbrev S64x128x3x3 : Shape := ⟨4, ![64, 128, 3, 3]⟩
abbrev S_ : Shape := ⟨0, ![]⟩

class Facts : Prop where
  bcast_S_S25x64x64x64 : S_.BroadcastsInDim S25x64x64x64 (![] : Fin 0 → Fin S25x64x64x64.rank)

variable [Facts]

def fn {F : FTy → Type} [FloatOps F] (main_arg0 : FVec F S25x64x64x64 .f32) (main_arg1 : FVec F S64x384x1x1 .f32) (main_arg2 : FVec F S64x128x3x3 .f32) : IVec S25x64x64x64 1 :=
  let main_v0 : FVec F S25x64x64x64 .f32 := Host.absf main_arg0
  let main_cst : FVec F S_ .f32 := constant S_ .f32 0x7F800000#32
  let main_v1 : FVec F S25x64x64x64 .f32 := broadcastInDim S25x64x64x64 ![] bcast_S_S25x64x64x64 main_cst
  let main_v2 : IVec S25x64x64x64 1 := cmpf .olt main_v0 main_v1
  main_v2
-- ==== Kernel.lean ====
abbrev S25x64x64x64 : Shape := ⟨4, ![25, 64, 64, 64]⟩
abbrev S64x384x1x1 : Shape := ⟨4, ![64, 384, 1, 1]⟩
abbrev S64x128x3x3 : Shape := ⟨4, ![64, 128, 3, 3]⟩
abbrev S1x25x64x16x4x16x4 : Shape := ⟨7, ![1, 25, 64, 16, 4, 16, 4]⟩
abbrev S1x16x16x4x4x64x25 : Shape := ⟨7, ![1, 16, 16, 4, 4, 64, 25]⟩
abbrev S256x1024x25 : Shape := ⟨3, ![256, 1024, 25]⟩
abbrev S1x16x16x25x4x4x64 : Shape := ⟨7, ![1, 16, 16, 25, 4, 4, 64]⟩
abbrev S256x25x1024 : Shape := ⟨3, ![256, 25, 1024]⟩
abbrev S25x64x2x64 : Shape := ⟨4, ![25, 64, 2, 64]⟩
abbrev S25x64x62x64 : Shape := ⟨4, ![25, 64, 62, 64]⟩
abbrev S25x64x64x2 : Shape := ⟨4, ![25, 64, 64, 2]⟩
abbrev S25x64x64x62 : Shape := ⟨4, ![25, 64, 64, 62]⟩
abbrev S64x384 : Shape := ⟨2, ![64, 384]⟩
abbrev S256x64x512 : Shape := ⟨3, ![256, 64, 512]⟩
abbrev S1x1024x25 : Shape := ⟨3, ![1, 1024, 25]⟩
abbrev S1x25x1024 : Shape := ⟨3, ![1, 25, 1024]⟩
abbrev S1x64x512 : Shape := ⟨3, ![1, 64, 512]⟩
abbrev S1024x25 : Shape := ⟨2, ![1024, 25]⟩
abbrev S25x1024 : Shape := ⟨2, ![25, 1024]⟩
abbrev S225x1024 : Shape := ⟨2, ![225, 1024]⟩
abbrev S225x25 : Shape := ⟨2, ![225, 25]⟩
abbrev S25 : Shape := ⟨1, ![25]⟩
abbrev S1x25 : Shape := ⟨2, ![1, 25]⟩
abbrev S225 : Shape := ⟨1, ![225]⟩
abbrev S225x1 : Shape := ⟨2, ![225, 1]⟩
abbrev S225x7 : Shape := ⟨2, ![225, 7]⟩
abbrev S225x192 : Shape := ⟨2, ![225, 192]⟩
abbrev S1024x192 : Shape := ⟨2, ![1024, 192]⟩
abbrev S64x32 : Shape := ⟨2, ![64, 32]⟩
abbrev S64x512 : Shape := ⟨2, ![64, 512]⟩
abbrev S384x512 : Shape := ⟨2, ![384, 512]⟩
abbrev S16x16x64x4x4x32 : Shape := ⟨6, ![16, 16, 64, 4, 4, 32]⟩
abbrev S16x16x64x4x4x25 : Shape := ⟨6, ![16, 16, 64, 4, 4, 25]⟩
abbrev S25x64x16x4x16x4 : Shape := ⟨6, ![25, 64, 16, 4, 16, 4]⟩
abbrev S25x64x4096 : Shape := ⟨3, ![25, 64, 4096]⟩
abbrev S3x3x64x128 : Shape := ⟨4, ![3, 3, 64, 128]⟩
abbrev S9x64x128 : Shape := ⟨3, ![9, 64, 128]⟩
abbrev S1x64x4096 : Shape := ⟨3, ![1, 64, 4096]⟩
abbrev S64x4096 : Shape := ⟨2, ![64, 4096]⟩
abbrev S128x4096 : Shape := ⟨2, ![128, 4096]⟩
abbrev S1x4096 : Shape := ⟨2, ![1, 4096]⟩
abbrev S1x64x128 : Shape := ⟨3, ![1, 64, 128]⟩
abbrev S64x128 : Shape := ⟨2, ![64, 128]⟩
abbrev S64x65 : Shape := ⟨2, ![64, 65]⟩
abbrev S64x4031 : Shape := ⟨2, ![64, 4031]⟩
abbrev S64x64 : Shape := ⟨2, ![64, 64]⟩
abbrev S64x4032 : Shape := ⟨2, ![64, 4032]⟩
abbrev S64x63 : Shape := ⟨2, ![64, 63]⟩
abbrev S64x4033 : Shape := ⟨2, ![64, 4033]⟩
abbrev S64x1 : Shape := ⟨2, ![64, 1]⟩
abbrev S64x4095 : Shape := ⟨2, ![64, 4095]⟩

abbrev nBuf : Space → Nat
  | .hbm => 41
  | .vmem => 30
  | .smem => 0
  | _ => 0

abbrev bufTy : (tb : Table) → Fin (tcTables nBuf tb) → BufTy
  | .hbm, ⟨0, _⟩ => ⟨S25x64x64x64, .f32⟩
  | .hbm, ⟨1, _⟩ => ⟨S64x384x1x1, .f32⟩
  | .hbm, ⟨2, _⟩ => ⟨S64x128x3x3, .f32⟩
  | .hbm, ⟨3, _⟩ => ⟨S1x25x64x16x4x16x4, .f32⟩
  | .hbm, ⟨4, _⟩ => ⟨S1x16x16x4x4x64x25, .f32⟩
  | .hbm, ⟨5, _⟩ => ⟨S256x1024x25, .f32⟩
  | .hbm, ⟨6, _⟩ => ⟨S1x25x64x16x4x16x4, .f32⟩
  | .hbm, ⟨7, _⟩ => ⟨S1x16x16x25x4x4x64, .f32⟩
  | .hbm, ⟨8, _⟩ => ⟨S256x25x1024, .f32⟩
  | .hbm, ⟨9, _⟩ => ⟨S25x64x2x64, .f32⟩
  | .hbm, ⟨10, _⟩ => ⟨S25x64x62x64, .f32⟩
  | .hbm, ⟨11, _⟩ => ⟨S25x64x64x64, .f32⟩
  | .hbm, ⟨12, _⟩ => ⟨S1x25x64x16x4x16x4, .f32⟩
  | .hbm, ⟨13, _⟩ => ⟨S1x16x16x25x4x4x64, .f32⟩
  | .hbm, ⟨14, _⟩ => ⟨S256x25x1024, .f32⟩
  | .hbm, ⟨15, _⟩ => ⟨S25x64x64x2, .f32⟩
  | .hbm, ⟨16, _⟩ => ⟨S25x64x64x62, .f32⟩
  | .hbm, ⟨17, _⟩ => ⟨S25x64x64x64, .f32⟩
  | .hbm, ⟨18, _⟩ => ⟨S1x25x64x16x4x16x4, .f32⟩
  | .hbm, ⟨19, _⟩ => ⟨S1x16x16x25x4x4x64, .f32⟩
  | .hbm, ⟨20, _⟩ => ⟨S256x25x1024, .f32⟩
  | .hbm, ⟨21, _⟩ => ⟨S25x64x2x64, .f32⟩
  | .hbm, ⟨22, _⟩ => ⟨S25x64x62x64, .f32⟩
  | .hbm, ⟨23, _⟩ => ⟨S25x64x64x64, .f32⟩
  | .hbm, ⟨24, _⟩ => ⟨S25x64x64x2, .f32⟩
  | .hbm, ⟨25, _⟩ => ⟨S25x64x64x62, .f32⟩
  | .hbm, ⟨26, _⟩ => ⟨S25x64x64x64, .f32⟩
  | .hbm, ⟨27, _⟩ => ⟨S1x25x64x16x4x16x4, .f32⟩
  | .hbm, ⟨28, _⟩ => ⟨S1x16x16x25x4x4x64, .f32⟩
  | .hbm, ⟨29, _⟩ => ⟨S256x25x1024, .f32⟩
  | .hbm, ⟨30, _⟩ => ⟨S64x384, .f32⟩
  | .hbm, ⟨31, _⟩ => ⟨S256x64x512, .f32⟩
  | .hbm, ⟨32, _⟩ => ⟨S16x16x64x4x4x32, .f32⟩
  | .hbm, ⟨33, _⟩ => ⟨S16x16x64x4x4x25, .f32⟩
  | .hbm, ⟨34, _⟩ => ⟨S25x64x16x4x16x4, .f32⟩
  | .hbm, ⟨35, _⟩ => ⟨S25x64x4096, .f32⟩
  | .hbm, ⟨36, _⟩ => ⟨S25x64x4096, .f32⟩
  | .hbm, ⟨37, _⟩ => ⟨S3x3x64x128, .f32⟩
  | .hbm, ⟨38, _⟩ => ⟨S9x64x128, .f32⟩
  | .hbm, ⟨39, _⟩ => ⟨S25x64x4096, .f32⟩
  | .hbm, ⟨40, _⟩ => ⟨S25x64x64x64, .f32⟩
  | .local _ .vmem, ⟨0, _⟩ => ⟨S1x1024x25, .f32⟩
  | .local _ .vmem, ⟨1, _⟩ => ⟨S1x1024x25, .f32⟩
  | .local _ .vmem, ⟨2, _⟩ => ⟨S1x25x1024, .f32⟩
  | .local _ .vmem, ⟨3, _⟩ => ⟨S1x25x1024, .f32⟩
  | .local _ .vmem, ⟨4, _⟩ => ⟨S1x25x1024, .f32⟩
  | .local _ .vmem, ⟨5, _⟩ => ⟨S1x25x1024, .f32⟩
  | .local _ .vmem, ⟨6, _⟩ => ⟨S1x25x1024, .f32⟩
  | .local _ .vmem, ⟨7, _⟩ => ⟨S1x25x1024, .f32⟩
  | .local _ .vmem, ⟨8, _⟩ => ⟨S1x25x1024, .f32⟩
  | .local _ .vmem, ⟨9, _⟩ => ⟨S1x25x1024, .f32⟩
  | .local _ .vmem, ⟨10, _⟩ => ⟨S1x25x1024, .f32⟩
  | .local _ .vmem, ⟨11, _⟩ => ⟨S1x25x1024, .f32⟩
  | .local _ .vmem, ⟨12, _⟩ => ⟨S1x25x1024, .f32⟩
  | .local _ .vmem, ⟨13, _⟩ => ⟨S1x25x1024, .f32⟩
  | .local _ .vmem, ⟨14, _⟩ => ⟨S1x25x1024, .f32⟩
  | .local _ .vmem, ⟨15, _⟩ => ⟨S1x25x1024, .f32⟩
  | .local _ .vmem, ⟨16, _⟩ => ⟨S1x25x1024, .f32⟩
  | .local _ .vmem, ⟨17, _⟩ => ⟨S1x25x1024, .f32⟩
  | .local _ .vmem, ⟨18, _⟩ => ⟨S1x25x1024, .f32⟩
  | .local _ .vmem, ⟨19, _⟩ => ⟨S1x25x1024, .f32⟩
  | .local _ .vmem, ⟨20, _⟩ => ⟨S64x384, .f32⟩
  | .local _ .vmem, ⟨21, _⟩ => ⟨S1x64x512, .f32⟩
  | .local _ .vmem, ⟨22, _⟩ => ⟨S1x64x512, .f32⟩
  | .local _ .vmem, ⟨23, _⟩ => ⟨S1x64x4096, .f32⟩
  | .local _ .vmem, ⟨24, _⟩ => ⟨S1x64x4096, .f32⟩
  | .local _ .vmem, ⟨25, _⟩ => ⟨S1x64x4096, .f32⟩
  | .local _ .vmem, ⟨26, _⟩ => ⟨S1x64x4096, .f32⟩
  | .local _ .vmem, ⟨27, _⟩ => ⟨S9x64x128, .f32⟩
  | .local _ .vmem, ⟨28, _⟩ => ⟨S1x64x4096, .f32⟩
  | .local _ .vmem, ⟨29, _⟩ => ⟨S1x64x4096, .f32⟩
  | _, _ => ⟨S25x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call1_v0 : Ref sig .tc := ⟨.hbm, 15, rfl⟩
abbrev main_call1_v1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg3_0 : Ref sig .tc := ⟨.vmem, 28, rfl⟩
abbrev cc1_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem3_0 : DmaSem sig := 28
abbrev cc1_sem3_1 : DmaSem sig := 29

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi v16 c0_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi v17 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c16_i32_11 : BitVec 32 := 16#32
  let c0_i32_12 : BitVec 32 := 0#32
  let v28 : BitVec 1 := Scalar.cmpi .eq c16_i32_11 c0_i32_12
  let c1_i32_13 : BitVec 32 := 1#32
  let v29 : BitVec 32 := Scalar.select v28 c1_i32_13 c16_i32_11
  let v30 : BitVec 32 := Scalar.remsi arg0 v29
  let c0_i32_14 : BitVec 32 := 0#32
  let v31 : BitVec 1 := Scalar.cmpi .ne v30 c0_i32_14
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let v35 : BitVec 1 := Scalar.andi v34 v31
  let v36 : BitVec 32 := Scalar.addi v30 v29
  let v37 : BitVec 32 := Scalar.select v35 v36 v30
  let c0_i32_17 : BitVec 32 := 0#32
  let v38 : BitVec 32 := Scalar.addi v37 c0_i32_17
  let c16_i32_18 : BitVec 32 := 16#32
  let c0_i32_19 : BitVec 32 := 0#32
  let v39 : BitVec 1 := Scalar.cmpi .eq c16_i32_18 c0_i32_19
  let c1_i32_20 : BitVec 32 := 1#32
  let v40 : BitVec 32 := Scalar.select v39 c1_i32_20 c16_i32_18
  let v41 : BitVec 32 := Scalar.remsi v38 v40
  let c0_i32_21 : BitVec 32 := 0#32
  let v42 : BitVec 1 := Scalar.cmpi .ne v41 c0_i32_21
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let v46 : BitVec 1 := Scalar.andi v45 v42
  let v47 : BitVec 32 := Scalar.addi v41 v40
  let v48 : BitVec 32 := Scalar.select v46 v47 v41
  let c16_i32_24 : BitVec 32 := 16#32
  let v49 : BitVec 32 := Scalar.muli v27 c16_i32_24
  let v50 : BitVec 32 := Scalar.addi v49 v48
  let c0_i32_25 : BitVec 32 := 0#32
  let c0_i32_26 : BitVec 32 := 0#32
  let c0_i32_27 : BitVec 32 := 0#32
  ![v50.toNat, c0_i32_25.toNat, c0_i32_26.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi v16 c0_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi v17 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c16_i32_11 : BitVec 32 := 16#32
  let c0_i32_12 : BitVec 32 := 0#32
  let v28 : BitVec 1 := Scalar.cmpi .eq c16_i32_11 c0_i32_12
  let c1_i32_13 : BitVec 32 := 1#32
  let v29 : BitVec 32 := Scalar.select v28 c1_i32_13 c16_i32_11
  let v30 : BitVec 32 := Scalar.remsi arg0 v29
  let c0_i32_14 : BitVec 32 := 0#32
  let v31 : BitVec 1 := Scalar.cmpi .ne v30 c0_i32_14
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let v35 : BitVec 1 := Scalar.andi v34 v31
  let v36 : BitVec 32 := Scalar.addi v30 v29
  let v37 : BitVec 32 := Scalar.select v35 v36 v30
  let c0_i32_17 : BitVec 32 := 0#32
  let v38 : BitVec 32 := Scalar.addi v37 c0_i32_17
  let c16_i32_18 : BitVec 32 := 16#32
  let c0_i32_19 : BitVec 32 := 0#32
  let v39 : BitVec 1 := Scalar.cmpi .eq c16_i32_18 c0_i32_19
  let c1_i32_20 : BitVec 32 := 1#32
  let v40 : BitVec 32 := Scalar.select v39 c1_i32_20 c16_i32_18
  let v41 : BitVec 32 := Scalar.remsi v38 v40
  let c0_i32_21 : BitVec 32 := 0#32
  let v42 : BitVec 1 := Scalar.cmpi .ne v41 c0_i32_21
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let v46 : BitVec 1 := Scalar.andi v45 v42
  let v47 : BitVec 32 := Scalar.addi v41 v40
  let v48 : BitVec 32 := Scalar.select v46 v47 v41
  let c16_i32_24 : BitVec 32 := 16#32
  let v49 : BitVec 32 := Scalar.muli v27 c16_i32_24
  let v50 : BitVec 32 := Scalar.addi v49 v48
  let c0_i32_25 : BitVec 32 := 0#32
  let c0_i32_26 : BitVec 32 := 0#32
  let c0_i32_27 : BitVec 32 := 0#32
  ![v50.toNat, c0_i32_25.toNat, c0_i32_26.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi v16 c0_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi v17 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c16_i32_11 : BitVec 32 := 16#32
  let c0_i32_12 : BitVec 32 := 0#32
  let v28 : BitVec 1 := Scalar.cmpi .eq c16_i32_11 c0_i32_12
  let c1_i32_13 : BitVec 32 := 1#32
  let v29 : BitVec 32 := Scalar.select v28 c1_i32_13 c16_i32_11
  let v30 : BitVec 32 := Scalar.remsi arg0 v29
  let c0_i32_14 : BitVec 32 := 0#32
  let v31 : BitVec 1 := Scalar.cmpi .ne v30 c0_i32_14
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let v35 : BitVec 1 := Scalar.andi v34 v31
  let v36 : BitVec 32 := Scalar.addi v30 v29
  let v37 : BitVec 32 := Scalar.select v35 v36 v30
  let c_m1_i32 : BitVec 32 := 4294967295#32
  let v38 : BitVec 32 := Scalar.addi v37 c_m1_i32
  let c16_i32_17 : BitVec 32 := 16#32
  let c0_i32_18 : BitVec 32 := 0#32
  let v39 : BitVec 1 := Scalar.cmpi .eq c16_i32_17 c0_i32_18
  let c1_i32_19 : BitVec 32 := 1#32
  let v40 : BitVec 32 := Scalar.select v39 c1_i32_19 c16_i32_17
  let v41 : BitVec 32 := Scalar.remsi v38 v40
  let c0_i32_20 : BitVec 32 := 0#32
  let v42 : BitVec 1 := Scalar.cmpi .ne v41 c0_i32_20
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let v46 : BitVec 1 := Scalar.andi v45 v42
  let v47 : BitVec 32 := Scalar.addi v41 v40
  let v48 : BitVec 32 := Scalar.select v46 v47 v41
  let c16_i32_23 : BitVec 32 := 16#32
  let v49 : BitVec 32 := Scalar.muli v27 c16_i32_23
  let v50 : BitVec 32 := Scalar.addi v49 v48
  let c0_i32_24 : BitVec 32 := 0#32
  let c0_i32_25 : BitVec 32 := 0#32
  let c0_i32_26 : BitVec 32 := 0#32
  ![v50.toNat, c0_i32_24.toNat, c0_i32_25.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi v16 c0_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi v17 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c16_i32_11 : BitVec 32 := 16#32
  let c0_i32_12 : BitVec 32 := 0#32
  let v28 : BitVec 1 := Scalar.cmpi .eq c16_i32_11 c0_i32_12
  let c1_i32_13 : BitVec 32 := 1#32
  let v29 : BitVec 32 := Scalar.select v28 c1_i32_13 c16_i32_11
  let v30 : BitVec 32 := Scalar.remsi arg0 v29
  let c0_i32_14 : BitVec 32 := 0#32
  let v31 : BitVec 1 := Scalar.cmpi .ne v30 c0_i32_14
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let v35 : BitVec 1 := Scalar.andi v34 v31
  let v36 : BitVec 32 := Scalar.addi v30 v29
  let v37 : BitVec 32 := Scalar.select v35 v36 v30
  let c0_i32_17 : BitVec 32 := 0#32
  let v38 : BitVec 32 := Scalar.addi v37 c0_i32_17
  let c16_i32_18 : BitVec 32 := 16#32
  let c0_i32_19 : BitVec 32 := 0#32
  let v39 : BitVec 1 := Scalar.cmpi .eq c16_i32_18 c0_i32_19
  let c1_i32_20 : BitVec 32 := 1#32
  let v40 : BitVec 32 := Scalar.select v39 c1_i32_20 c16_i32_18
  let v41 : BitVec 32 := Scalar.remsi v38 v40
  let c0_i32_21 : BitVec 32 := 0#32
  let v42 : BitVec 1 := Scalar.cmpi .ne v41 c0_i32_21
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let v46 : BitVec 1 := Scalar.andi v45 v42
  let v47 : BitVec 32 := Scalar.addi v41 v40
  let v48 : BitVec 32 := Scalar.select v46 v47 v41
  let c16_i32_24 : BitVec 32 := 16#32
  let v49 : BitVec 32 := Scalar.muli v27 c16_i32_24
  let v50 : BitVec 32 := Scalar.addi v49 v48
  let c0_i32_25 : BitVec 32 := 0#32
  let c0_i32_26 : BitVec 32 := 0#32
  let c0_i32_27 : BitVec 32 := 0#32
  ![v50.toNat, c0_i32_25.toNat, c0_i32_26.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi v16 c0_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi v17 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c16_i32_11 : BitVec 32 := 16#32
  let c0_i32_12 : BitVec 32 := 0#32
  let v28 : BitVec 1 := Scalar.cmpi .eq c16_i32_11 c0_i32_12
  let c1_i32_13 : BitVec 32 := 1#32
  let v29 : BitVec 32 := Scalar.select v28 c1_i32_13 c16_i32_11
  let v30 : BitVec 32 := Scalar.remsi arg0 v29
  let c0_i32_14 : BitVec 32 := 0#32
  let v31 : BitVec 1 := Scalar.cmpi .ne v30 c0_i32_14
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let v35 : BitVec 1 := Scalar.andi v34 v31
  let v36 : BitVec 32 := Scalar.addi v30 v29
  let v37 : BitVec 32 := Scalar.select v35 v36 v30
  let c0_i32_17 : BitVec 32 := 0#32
  let v38 : BitVec 32 := Scalar.addi v37 c0_i32_17
  let c16_i32_18 : BitVec 32 := 16#32
  let c0_i32_19 : BitVec 32 := 0#32
  let v39 : BitVec 1 := Scalar.cmpi .eq c16_i32_18 c0_i32_19
  let c1_i32_20 : BitVec 32 := 1#32
  let v40 : BitVec 32 := Scalar.select v39 c1_i32_20 c16_i32_18
  let v41 : BitVec 32 := Scalar.remsi v38 v40
  let c0_i32_21 : BitVec 32 := 0#32
  let v42 : BitVec 1 := Scalar.cmpi .ne v41 c0_i32_21
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let v46 : BitVec 1 := Scalar.andi v45 v42
  let v47 : BitVec 32 := Scalar.addi v41 v40
  let v48 : BitVec 32 := Scalar.select v46 v47 v41
  let c16_i32_24 : BitVec 32 := 16#32
  let v49 : BitVec 32 := Scalar.muli v27 c16_i32_24
  let v50 : BitVec 32 := Scalar.addi v49 v48
  let c0_i32_25 : BitVec 32 := 0#32
  let c0_i32_26 : BitVec 32 := 0#32
  let c0_i32_27 : BitVec 32 := 0#32
  ![v50.toNat, c0_i32_25.toNat, c0_i32_26.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi v16 c0_i32_4
  let c16_i32_5 : BitVec 32 := 16#32
  let c0_i32_6 : BitVec 32 := 0#32
  let v18 : BitVec 1 := Scalar.cmpi .eq c16_i32_5 c0_i32_6
  let c1_i32_7 : BitVec 32 := 1#32
  let v19 : BitVec 32 := Scalar.select v18 c1_i32_7 c16_i32_5
  let v20 : BitVec 32 := Scalar.remsi v17 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c16_i32_11 : BitVec 32 := 16#32
  let c0_i32_12 : BitVec 32 := 0#32
  let v28 : BitVec 1 := Scalar.cmpi .eq c16_i32_11 c0_i32_12
  let c1_i32_13 : BitVec 32 := 1#32
  let v29 : BitVec 32 := Scalar.select v28 c1_i32_13 c16_i32_11
  let v30 : BitVec 32 := Scalar.remsi arg0 v29
  let c0_i32_14 : BitVec 32 := 0#32
  let v31 : BitVec 1 := Scalar.cmpi .ne v30 c0_i32_14
  let c0_i32_15 : BitVec 32 := 0#32
  let v32 : BitVec 1 := Scalar.cmpi .slt v30 c0_i32_15
  let c0_i32_16 : BitVec 32 := 0#32
  let v33 : BitVec 1 := Scalar.cmpi .slt v29 c0_i32_16
  let v34 : BitVec 1 := Scalar.xori v32 v33
  let v35 : BitVec 1 := Scalar.andi v34 v31
  let v36 : BitVec 32 := Scalar.addi v30 v29
  let v37 : BitVec 32 := Scalar.select v35 v36 v30
  let c_m1_i32 : BitVec 32 := 4294967295#32
  let v38 : BitVec 32 := Scalar.addi v37 c_m1_i32
  let c16_i32_17 : BitVec 32 := 16#32
  let c0_i32_18 : BitVec 32 := 0#32
  let v39 : BitVec 1 := Scalar.cmpi .eq c16_i32_17 c0_i32_18
  let c1_i32_19 : BitVec 32 := 1#32
  let v40 : BitVec 32 := Scalar.select v39 c1_i32_19 c16_i32_17
  let v41 : BitVec 32 := Scalar.remsi v38 v40
  let c0_i32_20 : BitVec 32 := 0#32
  let v42 : BitVec 1 := Scalar.cmpi .ne v41 c0_i32_20
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let v46 : BitVec 1 := Scalar.andi v45 v42
  let v47 : BitVec 32 := Scalar.addi v41 v40
  let v48 : BitVec 32 := Scalar.select v46 v47 v41
  let c16_i32_23 : BitVec 32 := 16#32
  let v49 : BitVec 32 := Scalar.muli v27 c16_i32_23
  let v50 : BitVec 32 := Scalar.addi v49 v48
  let c0_i32_24 : BitVec 32 := 0#32
  let c0_i32_25 : BitVec 32 := 0#32
  let c0_i32_26 : BitVec 32 := 0#32
  ![v50.toNat, c0_i32_24.toNat, c0_i32_25.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c_m1_i32 : BitVec 32 := 4294967295#32
  let v17 : BitVec 32 := Scalar.addi v16 c_m1_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v17 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c16_i32_10 : BitVec 32 := 16#32
  let c0_i32_11 : BitVec 32 := 0#32
  let v28 : BitVec 1 := Scalar.cmpi .eq c16_i32_10 c0_i32_11
  let c1_i32_12 : BitVec 32 := 1#32
  let v29 : BitVec 32 := Scalar.select v28 c1_i32_12 c16_i32_10
  let v30 : BitVec 32 := Scalar.remsi arg0 v29
  let c0_i32_13 : BitVec 32 := 0#32
  let v31 : BitVec 1 := Scalar.cmpi .ne v30 c0_i32_13
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let v35 : BitVec 1 := Scalar.andi v34 v31
  let v36 : BitVec 32 := Scalar.addi v30 v29
  let v37 : BitVec 32 := Scalar.select v35 v36 v30
  let c0_i32_16 : BitVec 32 := 0#32
  let v38 : BitVec 32 := Scalar.addi v37 c0_i32_16
  let c16_i32_17 : BitVec 32 := 16#32
  let c0_i32_18 : BitVec 32 := 0#32
  let v39 : BitVec 1 := Scalar.cmpi .eq c16_i32_17 c0_i32_18
  let c1_i32_19 : BitVec 32 := 1#32
  let v40 : BitVec 32 := Scalar.select v39 c1_i32_19 c16_i32_17
  let v41 : BitVec 32 := Scalar.remsi v38 v40
  let c0_i32_20 : BitVec 32 := 0#32
  let v42 : BitVec 1 := Scalar.cmpi .ne v41 c0_i32_20
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let v46 : BitVec 1 := Scalar.andi v45 v42
  let v47 : BitVec 32 := Scalar.addi v41 v40
  let v48 : BitVec 32 := Scalar.select v46 v47 v41
  let c16_i32_23 : BitVec 32 := 16#32
  let v49 : BitVec 32 := Scalar.muli v27 c16_i32_23
  let v50 : BitVec 32 := Scalar.addi v49 v48
  let c0_i32_24 : BitVec 32 := 0#32
  let c0_i32_25 : BitVec 32 := 0#32
  let c0_i32_26 : BitVec 32 := 0#32
  ![v50.toNat, c0_i32_24.toNat, c0_i32_25.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c_m1_i32 : BitVec 32 := 4294967295#32
  let v17 : BitVec 32 := Scalar.addi v16 c_m1_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v17 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c16_i32_10 : BitVec 32 := 16#32
  let c0_i32_11 : BitVec 32 := 0#32
  let v28 : BitVec 1 := Scalar.cmpi .eq c16_i32_10 c0_i32_11
  let c1_i32_12 : BitVec 32 := 1#32
  let v29 : BitVec 32 := Scalar.select v28 c1_i32_12 c16_i32_10
  let v30 : BitVec 32 := Scalar.remsi arg0 v29
  let c0_i32_13 : BitVec 32 := 0#32
  let v31 : BitVec 1 := Scalar.cmpi .ne v30 c0_i32_13
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let v35 : BitVec 1 := Scalar.andi v34 v31
  let v36 : BitVec 32 := Scalar.addi v30 v29
  let v37 : BitVec 32 := Scalar.select v35 v36 v30
  let c0_i32_16 : BitVec 32 := 0#32
  let v38 : BitVec 32 := Scalar.addi v37 c0_i32_16
  let c16_i32_17 : BitVec 32 := 16#32
  let c0_i32_18 : BitVec 32 := 0#32
  let v39 : BitVec 1 := Scalar.cmpi .eq c16_i32_17 c0_i32_18
  let c1_i32_19 : BitVec 32 := 1#32
  let v40 : BitVec 32 := Scalar.select v39 c1_i32_19 c16_i32_17
  let v41 : BitVec 32 := Scalar.remsi v38 v40
  let c0_i32_20 : BitVec 32 := 0#32
  let v42 : BitVec 1 := Scalar.cmpi .ne v41 c0_i32_20
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let v46 : BitVec 1 := Scalar.andi v45 v42
  let v47 : BitVec 32 := Scalar.addi v41 v40
  let v48 : BitVec 32 := Scalar.select v46 v47 v41
  let c16_i32_23 : BitVec 32 := 16#32
  let v49 : BitVec 32 := Scalar.muli v27 c16_i32_23
  let v50 : BitVec 32 := Scalar.addi v49 v48
  let c0_i32_24 : BitVec 32 := 0#32
  let c0_i32_25 : BitVec 32 := 0#32
  let c0_i32_26 : BitVec 32 := 0#32
  ![v50.toNat, c0_i32_24.toNat, c0_i32_25.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c_m1_i32 : BitVec 32 := 4294967295#32
  let v17 : BitVec 32 := Scalar.addi v16 c_m1_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v17 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c16_i32_10 : BitVec 32 := 16#32
  let c0_i32_11 : BitVec 32 := 0#32
  let v28 : BitVec 1 := Scalar.cmpi .eq c16_i32_10 c0_i32_11
  let c1_i32_12 : BitVec 32 := 1#32
  let v29 : BitVec 32 := Scalar.select v28 c1_i32_12 c16_i32_10
  let v30 : BitVec 32 := Scalar.remsi arg0 v29
  let c0_i32_13 : BitVec 32 := 0#32
  let v31 : BitVec 1 := Scalar.cmpi .ne v30 c0_i32_13
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let v35 : BitVec 1 := Scalar.andi v34 v31
  let v36 : BitVec 32 := Scalar.addi v30 v29
  let v37 : BitVec 32 := Scalar.select v35 v36 v30
  let c_m1_i32_16 : BitVec 32 := 4294967295#32
  let v38 : BitVec 32 := Scalar.addi v37 c_m1_i32_16
  let c16_i32_17 : BitVec 32 := 16#32
  let c0_i32_18 : BitVec 32 := 0#32
  let v39 : BitVec 1 := Scalar.cmpi .eq c16_i32_17 c0_i32_18
  let c1_i32_19 : BitVec 32 := 1#32
  let v40 : BitVec 32 := Scalar.select v39 c1_i32_19 c16_i32_17
  let v41 : BitVec 32 := Scalar.remsi v38 v40
  let c0_i32_20 : BitVec 32 := 0#32
  let v42 : BitVec 1 := Scalar.cmpi .ne v41 c0_i32_20
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let v46 : BitVec 1 := Scalar.andi v45 v42
  let v47 : BitVec 32 := Scalar.addi v41 v40
  let v48 : BitVec 32 := Scalar.select v46 v47 v41
  let c16_i32_23 : BitVec 32 := 16#32
  let v49 : BitVec 32 := Scalar.muli v27 c16_i32_23
  let v50 : BitVec 32 := Scalar.addi v49 v48
  let c0_i32_24 : BitVec 32 := 0#32
  let c0_i32_25 : BitVec 32 := 0#32
  let c0_i32_26 : BitVec 32 := 0#32
  ![v50.toNat, c0_i32_24.toNat, c0_i32_25.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x25x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x25x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x25x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x25x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x25x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x25x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x25x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x25x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x25x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S64x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S9x64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x64x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "big" => some ⊤
  | _ => none
-- ==== ReferenceIdeal.lean ====
abbrev S25x64x64x64 : Shape := ⟨4, ![25, 64, 64, 64]⟩
abbrev S64x384x1x1 : Shape := ⟨4, ![64, 384, 1, 1]⟩
abbrev S64x128x3x3 : Shape := ⟨4, ![64, 128, 3, 3]⟩
abbrev S1x25x64x16x4x16x4 : Shape := ⟨7, ![1, 25, 64, 16, 4, 16, 4]⟩
abbrev S1x16x16x64x4x4x25 : Shape := ⟨7, ![1, 16, 16, 64, 4, 4, 25]⟩
abbrev S256x1024x25 : Shape := ⟨3, ![256, 1024, 25]⟩
abbrev S25x64x0x64 : Shape := ⟨4, ![25, 64, 0, 64]⟩
abbrev S25x64x64x0 : Shape := ⟨4, ![25, 64, 64, 0]⟩
abbrev S256x25x1024 : Shape := ⟨3, ![256, 25, 1024]⟩
abbrev S256x25x25 : Shape := ⟨3, ![256, 25, 25]⟩
abbrev S_ : Shape := ⟨0, ![]⟩
abbrev S256x25 : Shape := ⟨2, ![256, 25]⟩
abbrev S256x25x1 : Shape := ⟨3, ![256, 25, 1]⟩
abbrev S256x1x25 : Shape := ⟨3, ![256, 1, 25]⟩
abbrev S25x64x64x2 : Shape := ⟨4, ![25, 64, 64, 2]⟩
abbrev S25x64x64x62 : Shape := ⟨4, ![25, 64, 64, 62]⟩
abbrev S25x64x64x4 : Shape := ⟨4, ![25, 64, 64, 4]⟩
abbrev S25x64x64x60 : Shape := ⟨4, ![25, 64, 64, 60]⟩
abbrev S25x64x2x64 : Shape := ⟨4, ![25, 64, 2, 64]⟩
abbrev S25x64x62x64 : Shape := ⟨4, ![25, 64, 62, 64]⟩
abbrev S25x64x4x64 : Shape := ⟨4, ![25, 64, 4, 64]⟩
abbrev S25x64x60x64 : Shape := ⟨4, ![25, 64, 60, 64]⟩
abbrev S256x1024x225 : Shape := ⟨3, ![256, 1024, 225]⟩
abbrev S256x25x225 : Shape := ⟨3, ![256, 25, 225]⟩
abbrev S256x25x6 : Shape := ⟨3, ![256, 25, 6]⟩
abbrev S256x1x25x6 : Shape := ⟨4, ![256, 1, 25, 6]⟩
abbrev S256x1024x25x6 : Shape := ⟨4, ![256, 1024, 25, 6]⟩
abbrev S256x1024x150 : Shape := ⟨3, ![256, 1024, 150]⟩
abbrev S256x1024x150x1 : Shape := ⟨4, ![256, 1024, 150, 1]⟩
abbrev S16x16x64x4x4x25x6 : Shape := ⟨7, ![16, 16, 64, 4, 4, 25, 6]⟩
abbrev S25x6x64x16x4x16x4 : Shape := ⟨7, ![25, 6, 64, 16, 4, 16, 4]⟩
abbrev S25x384x64x64 : Shape := ⟨4, ![25, 384, 64, 64]⟩
abbrev S64x384 : Shape := ⟨2, ![64, 384]⟩
abbrev S25x128x64x64 : Shape := ⟨4, ![25, 128, 64, 64]⟩
abbrev S25x128x66x66 : Shape := ⟨4, ![25, 128, 66, 66]⟩
abbrev S64x128x1x1 : Shape := ⟨4, ![64, 128, 1, 1]⟩
abbrev S64x128 : Shape := ⟨2, ![64, 128]⟩

abbrev nBuf : Space → Nat
  | .hbm => 337
  | .vmem => 0
  | .smem => 0
  | _ => 0

abbrev hbmTy0_0 (i : Nat) : BufTy := match i % 128 with
  | 0 => ⟨S25x64x64x64, .f32⟩
  | 1 => ⟨S64x384x1x1, .f32⟩
  | 2 => ⟨S64x128x3x3, .f32⟩
  | 3 => ⟨S1x25x64x16x4x16x4, .f32⟩
  | 4 => ⟨S1x16x16x64x4x4x25, .f32⟩
  | 5 => ⟨S256x1024x25, .f32⟩
  | 6 => ⟨S25x64x64x64, .f32⟩
  | 7 => ⟨S25x64x0x64, .f32⟩
  | 8 => ⟨S25x64x64x64, .f32⟩
  | 9 => ⟨S25x64x64x64, .f32⟩
  | 10 => ⟨S25x64x64x0, .f32⟩
  | 11 => ⟨S25x64x64x64, .f32⟩
  | 12 => ⟨S1x25x64x16x4x16x4, .f32⟩
  | 13 => ⟨S1x16x16x64x4x4x25, .f32⟩
  | 14 => ⟨S256x1024x25, .f32⟩
  | 15 => ⟨S256x25x1024, .f32⟩
  | 16 => ⟨S256x25x25, .f32⟩
  | 17 => ⟨S_, .f32⟩
  | 18 => ⟨S256x25x25, .f32⟩
  | 19 => ⟨S256x25x25, .f32⟩
  | 20 => ⟨S256x25x1024, .f32⟩
  | 21 => ⟨S_, .f32⟩
  | 22 => ⟨S256x25, .f32⟩
  | 23 => ⟨S256x25x1, .f32⟩
  | 24 => ⟨S256x25x25, .f32⟩
  | 25 => ⟨S256x25x25, .f32⟩
  | 26 => ⟨S256x1024x25, .f32⟩
  | 27 => ⟨S_, .f32⟩
  | 28 => ⟨S256x25, .f32⟩
  | 29 => ⟨S256x1x25, .f32⟩
  | 30 => ⟨S256x25x25, .f32⟩
  | 31 => ⟨S256x25x25, .f32⟩
  | 32 => ⟨S25x64x64x64, .f32⟩
  | 33 => ⟨S25x64x0x64, .f32⟩
  | 34 => ⟨S25x64x64x64, .f32⟩
  | 35 => ⟨S25x64x64x2, .f32⟩
  | 36 => ⟨S25x64x64x62, .f32⟩
  | 37 => ⟨S25x64x64x64, .f32⟩
  | 38 => ⟨S1x25x64x16x4x16x4, .f32⟩
  | 39 => ⟨S1x16x16x64x4x4x25, .f32⟩
  | 40 => ⟨S256x1024x25, .f32⟩
  | 41 => ⟨S256x25x1024, .f32⟩
  | 42 => ⟨S256x25x25, .f32⟩
  | 43 => ⟨S_, .f32⟩
  | 44 => ⟨S256x25x25, .f32⟩
  | 45 => ⟨S256x25x25, .f32⟩
  | 46 => ⟨S256x25x1024, .f32⟩
  | 47 => ⟨S_, .f32⟩
  | 48 => ⟨S256x25, .f32⟩
  | 49 => ⟨S256x25x1, .f32⟩
  | 50 => ⟨S256x25x25, .f32⟩
  | 51 => ⟨S256x25x25, .f32⟩
  | 52 => ⟨S256x1024x25, .f32⟩
  | 53 => ⟨S_, .f32⟩
  | 54 => ⟨S256x25, .f32⟩
  | 55 => ⟨S256x1x25, .f32⟩
  | 56 => ⟨S256x25x25, .f32⟩
  | 57 => ⟨S256x25x25, .f32⟩
  | 58 => ⟨S25x64x64x64, .f32⟩
  | 59 => ⟨S25x64x0x64, .f32⟩
  | 60 => ⟨S25x64x64x64, .f32⟩
  | 61 => ⟨S25x64x64x4, .f32⟩
  | 62 => ⟨S25x64x64x60, .f32⟩
  | 63 => ⟨S25x64x64x64, .f32⟩
  | 64 => ⟨S1x25x64x16x4x16x4, .f32⟩
  | 65 => ⟨S1x16x16x64x4x4x25, .f32⟩
  | 66 => ⟨S256x1024x25, .f32⟩
  | 67 => ⟨S256x25x1024, .f32⟩
  | 68 => ⟨S256x25x25, .f32⟩
  | 69 => ⟨S_, .f32⟩
  | 70 => ⟨S256x25x25, .f32⟩
  | 71 => ⟨S256x25x25, .f32⟩
  | 72 => ⟨S256x25x1024, .f32⟩
  | 73 => ⟨S_, .f32⟩
  | 74 => ⟨S256x25, .f32⟩
  | 75 => ⟨S256x25x1, .f32⟩
  | 76 => ⟨S256x25x25, .f32⟩
  | 77 => ⟨S256x25x25, .f32⟩
  | 78 => ⟨S256x1024x25, .f32⟩
  | 79 => ⟨S_, .f32⟩
  | 80 => ⟨S256x25, .f32⟩
  | 81 => ⟨S256x1x25, .f32⟩
  | 82 => ⟨S256x25x25, .f32⟩
  | 83 => ⟨S256x25x25, .f32⟩
  | 84 => ⟨S25x64x2x64, .f32⟩
  | 85 => ⟨S25x64x62x64, .f32⟩
  | 86 => ⟨S25x64x64x64, .f32⟩
  | 87 => ⟨S25x64x64x64, .f32⟩
  | 88 => ⟨S25x64x64x0, .f32⟩
  | 89 => ⟨S25x64x64x64, .f32⟩
  | 90 => ⟨S1x25x64x16x4x16x4, .f32⟩
  | 91 => ⟨S1x16x16x64x4x4x25, .f32⟩
  | 92 => ⟨S256x1024x25, .f32⟩
  | 93 => ⟨S256x25x1024, .f32⟩
  | 94 => ⟨S256x25x25, .f32⟩
  | 95 => ⟨S_, .f32⟩
  | 96 => ⟨S256x25x25, .f32⟩
  | 97 => ⟨S256x25x25, .f32⟩
  | 98 => ⟨S256x25x1024, .f32⟩
  | 99 => ⟨S_, .f32⟩
  | 100 => ⟨S256x25, .f32⟩
  | 101 => ⟨S256x25x1, .f32⟩
  | 102 => ⟨S256x25x25, .f32⟩
  | 103 => ⟨S256x25x25, .f32⟩
  | 104 => ⟨S256x1024x25, .f32⟩
  | 105 => ⟨S_, .f32⟩
  | 106 => ⟨S256x25, .f32⟩
  | 107 => ⟨S256x1x25, .f32⟩
  | 108 => ⟨S256x25x25, .f32⟩
  | 109 => ⟨S256x25x25, .f32⟩
  | 110 => ⟨S25x64x2x64, .f32⟩
  | 111 => ⟨S25x64x62x64, .f32⟩
  | 112 => ⟨S25x64x64x64, .f32⟩
  | 113 => ⟨S25x64x64x2, .f32⟩
  | 114 => ⟨S25x64x64x62, .f32⟩
  | 115 => ⟨S25x64x64x64, .f32⟩
  | 116 => ⟨S1x25x64x16x4x16x4, .f32⟩
  | 117 => ⟨S1x16x16x64x4x4x25, .f32⟩
  | 118 => ⟨S256x1024x25, .f32⟩
  | 119 => ⟨S256x25x1024, .f32⟩
  | 120 => ⟨S256x25x25, .f32⟩
  | 121 => ⟨S_, .f32⟩
  | 122 => ⟨S256x25x25, .f32⟩
  | 123 => ⟨S256x25x25, .f32⟩
  | 124 => ⟨S256x25x1024, .f32⟩
  | 125 => ⟨S_, .f32⟩
  | 126 => ⟨S256x25, .f32⟩
  | 127 => ⟨S256x25x1, .f32⟩
  | _ => ⟨S25x64x64x64, .f32⟩

abbrev hbmTy0_1 (i : Nat) : BufTy := match i % 128 with
  | 0 => ⟨S256x25x25, .f32⟩
  | 1 => ⟨S256x25x25, .f32⟩
  | 2 => ⟨S256x1024x25, .f32⟩
  | 3 => ⟨S_, .f32⟩
  | 4 => ⟨S256x25, .f32⟩
  | 5 => ⟨S256x1x25, .f32⟩
  | 6 => ⟨S256x25x25, .f32⟩
  | 7 => ⟨S256x25x25, .f32⟩
  | 8 => ⟨S25x64x2x64, .f32⟩
  | 9 => ⟨S25x64x62x64, .f32⟩
  | 10 => ⟨S25x64x64x64, .f32⟩
  | 11 => ⟨S25x64x64x4, .f32⟩
  | 12 => ⟨S25x64x64x60, .f32⟩
  | 13 => ⟨S25x64x64x64, .f32⟩
  | 14 => ⟨S1x25x64x16x4x16x4, .f32⟩
  | 15 => ⟨S1x16x16x64x4x4x25, .f32⟩
  | 16 => ⟨S256x1024x25, .f32⟩
  | 17 => ⟨S256x25x1024, .f32⟩
  | 18 => ⟨S256x25x25, .f32⟩
  | 19 => ⟨S_, .f32⟩
  | 20 => ⟨S256x25x25, .f32⟩
  | 21 => ⟨S256x25x25, .f32⟩
  | 22 => ⟨S256x25x1024, .f32⟩
  | 23 => ⟨S_, .f32⟩
  | 24 => ⟨S256x25, .f32⟩
  | 25 => ⟨S256x25x1, .f32⟩
  | 26 => ⟨S256x25x25, .f32⟩
  | 27 => ⟨S256x25x25, .f32⟩
  | 28 => ⟨S256x1024x25, .f32⟩
  | 29 => ⟨S_, .f32⟩
  | 30 => ⟨S256x25, .f32⟩
  | 31 => ⟨S256x1x25, .f32⟩
  | 32 => ⟨S256x25x25, .f32⟩
  | 33 => ⟨S256x25x25, .f32⟩
  | 34 => ⟨S25x64x4x64, .f32⟩
  | 35 => ⟨S25x64x60x64, .f32⟩
  | 36 => ⟨S25x64x64x64, .f32⟩
  | 37 => ⟨S25x64x64x64, .f32⟩
  | 38 => ⟨S25x64x64x0, .f32⟩
  | 39 => ⟨S25x64x64x64, .f32⟩
  | 40 => ⟨S1x25x64x16x4x16x4, .f32⟩
  | 41 => ⟨S1x16x16x64x4x4x25, .f32⟩
  | 42 => ⟨S256x1024x25, .f32⟩
  | 43 => ⟨S256x25x1024, .f32⟩
  | 44 => ⟨S256x25x25, .f32⟩
  | 45 => ⟨S_, .f32⟩
  | 46 => ⟨S256x25x25, .f32⟩
  | 47 => ⟨S256x25x25, .f32⟩
  | 48 => ⟨S256x25x1024, .f32⟩
  | 49 => ⟨S_, .f32⟩
  | 50 => ⟨S256x25, .f32⟩
  | 51 => ⟨S256x25x1, .f32⟩
  | 52 => ⟨S256x25x25, .f32⟩
  | 53 => ⟨S256x25x25, .f32⟩
  | 54 => ⟨S256x1024x25, .f32⟩
  | 55 => ⟨S_, .f32⟩
  | 56 => ⟨S256x25, .f32⟩
  | 57 => ⟨S256x1x25, .f32⟩
  | 58 => ⟨S256x25x25, .f32⟩
  | 59 => ⟨S256x25x25, .f32⟩
  | 60 => ⟨S25x64x4x64, .f32⟩
  | 61 => ⟨S25x64x60x64, .f32⟩
  | 62 => ⟨S25x64x64x64, .f32⟩
  | 63 => ⟨S25x64x64x2, .f32⟩
  | 64 => ⟨S25x64x64x62, .f32⟩
  | 65 => ⟨S25x64x64x64, .f32⟩
  | 66 => ⟨S1x25x64x16x4x16x4, .f32⟩
  | 67 => ⟨S1x16x16x64x4x4x25, .f32⟩
  | 68 => ⟨S256x1024x25, .f32⟩
  | 69 => ⟨S256x25x1024, .f32⟩
  | 70 => ⟨S256x25x25, .f32⟩
  | 71 => ⟨S_, .f32⟩
  | 72 => ⟨S256x25x25, .f32⟩
  | 73 => ⟨S256x25x25, .f32⟩
  | 74 => ⟨S256x25x1024, .f32⟩
  | 75 => ⟨S_, .f32⟩
  | 76 => ⟨S256x25, .f32⟩
  | 77 => ⟨S256x25x1, .f32⟩
  | 78 => ⟨S256x25x25, .f32⟩
  | 79 => ⟨S256x25x25, .f32⟩
  | 80 => ⟨S256x1024x25, .f32⟩
  | 81 => ⟨S_, .f32⟩
  | 82 => ⟨S256x25, .f32⟩
  | 83 => ⟨S256x1x25, .f32⟩
  | 84 => ⟨S256x25x25, .f32⟩
  | 85 => ⟨S256x25x25, .f32⟩
  | 86 => ⟨S25x64x4x64, .f32⟩
  | 87 => ⟨S25x64x60x64, .f32⟩
  | 88 => ⟨S25x64x64x64, .f32⟩
  | 89 => ⟨S25x64x64x4, .f32⟩
  | 90 => ⟨S25x64x64x60, .f32⟩
  | 91 => ⟨S25x64x64x64, .f32⟩
  | 92 => ⟨S1x25x64x16x4x16x4, .f32⟩
  | 93 => ⟨S1x16x16x64x4x4x25, .f32⟩
  | 94 => ⟨S256x1024x25, .f32⟩
  | 95 => ⟨S256x25x1024, .f32⟩
  | 96 => ⟨S256x25x25, .f32⟩
  | 97 => ⟨S_, .f32⟩
  | 98 => ⟨S256x25x25, .f32⟩
  | 99 => ⟨S256x25x25, .f32⟩
  | 100 => ⟨S256x25x1024, .f32⟩
  | 101 => ⟨S_, .f32⟩
  | 102 => ⟨S256x25, .f32⟩
  | 103 => ⟨S256x25x1, .f32⟩
  | 104 => ⟨S256x25x25, .f32⟩
  | 105 => ⟨S256x25x25, .f32⟩
  | 106 => ⟨S256x1024x25, .f32⟩
  | 107 => ⟨S_, .f32⟩
  | 108 => ⟨S256x25, .f32⟩
  | 109 => ⟨S256x1x25, .f32⟩
  | 110 => ⟨S256x25x25, .f32⟩
  | 111 => ⟨S256x25x25, .f32⟩
  | 112 => ⟨S256x1024x225, .f32⟩
  | 113 => ⟨S256x25x225, .f32⟩
  | 114 => ⟨S256x25x225, .f32⟩
  | 115 => ⟨S256x25x6, .f32⟩
  | 116 => ⟨S256x25x6, .i32⟩
  | 117 => ⟨S256x1x25x6, .i32⟩
  | 118 => ⟨S256x1024x25x6, .i32⟩
  | 119 => ⟨S256x1024x150, .i32⟩
  | 120 => ⟨S_, .i32⟩
  | 121 => ⟨S256x1024x150, .i32⟩
  | 122 => ⟨S256x1024x150, .i1⟩
  | 123 => ⟨S_, .i32⟩
  | 124 => ⟨S256x1024x150, .i32⟩
  | 125 => ⟨S256x1024x150, .i32⟩
  | 126 => ⟨S256x1024x150, .i32⟩
  | 127 => ⟨S256x1024x150x1, .i32⟩
  | _ => ⟨S25x64x64x64, .f32⟩

abbrev hbmTy0_2 (i : Nat) : BufTy := match i % 128 with
  | 0 => ⟨S256x1024x150, .f32⟩
  | 1 => ⟨S16x16x64x4x4x25x6, .f32⟩
  | 2 => ⟨S25x6x64x16x4x16x4, .f32⟩
  | 3 => ⟨S25x384x64x64, .f32⟩
  | 4 => ⟨S64x384, .f32⟩
  | 5 => ⟨S25x64x64x64, .f32⟩
  | 6 => ⟨S25x64x64x64, .f32⟩
  | 7 => ⟨S_, .f32⟩
  | 8 => ⟨S25x64x64x64, .f32⟩
  | 9 => ⟨S25x64x64x64, .i1⟩
  | 10 => ⟨S_, .f32⟩
  | 11 => ⟨S25x64x64x64, .f32⟩
  | 12 => ⟨S25x64x64x64, .f32⟩
  | 13 => ⟨S25x64x64x64, .f32⟩
  | 14 => ⟨S25x128x64x64, .f32⟩
  | 15 => ⟨S_, .i32⟩
  | 16 => ⟨S_, .f32⟩
  | 17 => ⟨S25x128x66x66, .f32⟩
  | 18 => ⟨S64x128x1x1, .f32⟩
  | 19 => ⟨S64x128, .f32⟩
  | 20 => ⟨S25x128x64x64, .f32⟩
  | 21 => ⟨S25x64x64x64, .f32⟩
  | 22 => ⟨S25x64x64x64, .f32⟩
  | 23 => ⟨S_, .f32⟩
  | 24 => ⟨S25x64x64x64, .f32⟩
  | 25 => ⟨S25x64x64x64, .f32⟩
  | 26 => ⟨S64x128x1x1, .f32⟩
  | 27 => ⟨S64x128, .f32⟩
  | 28 => ⟨S25x128x64x64, .f32⟩
  | 29 => ⟨S25x64x64x64, .f32⟩
  | 30 => ⟨S25x64x64x64, .f32⟩
  | 31 => ⟨S25x64x64x64, .f32⟩
  | 32 => ⟨S64x128x1x1, .f32⟩
  | 33 => ⟨S64x128, .f32⟩
  | 34 => ⟨S25x128x64x64, .f32⟩
  | 35 => ⟨S25x64x64x64, .f32⟩
  | 36 => ⟨S25x64x64x64, .f32⟩
  | 37 => ⟨S25x64x64x64, .f32⟩
  | 38 => ⟨S64x128x1x1, .f32⟩
  | 39 => ⟨S64x128, .f32⟩
  | 40 => ⟨S25x128x64x64, .f32⟩
  | 41 => ⟨S25x64x64x64, .f32⟩
  | 42 => ⟨S25x64x64x64, .f32⟩
  | 43 => ⟨S25x64x64x64, .f32⟩
  | 44 => ⟨S64x128x1x1, .f32⟩
  | 45 => ⟨S64x128, .f32⟩
  | 46 => ⟨S25x128x64x64, .f32⟩
  | 47 => ⟨S25x64x64x64, .f32⟩
  | 48 => ⟨S25x64x64x64, .f32⟩
  | 49 => ⟨S25x64x64x64, .f32⟩
  | 50 => ⟨S64x128x1x1, .f32⟩
  | 51 => ⟨S64x128, .f32⟩
  | 52 => ⟨S25x128x64x64, .f32⟩
  | 53 => ⟨S25x64x64x64, .f32⟩
  | 54 => ⟨S25x64x64x64, .f32⟩
  | 55 => ⟨S25x64x64x64, .f32⟩
  | 56 => ⟨S64x128x1x1, .f32⟩
  | 57 => ⟨S64x128, .f32⟩
  | 58 => ⟨S25x128x64x64, .f32⟩
  | 59 => ⟨S25x64x64x64, .f32⟩
  | 60 => ⟨S25x64x64x64, .f32⟩
  | 61 => ⟨S25x64x64x64, .f32⟩
  | 62 => ⟨S64x128x1x1, .f32⟩
  | 63 => ⟨S64x128, .f32⟩
  | 64 => ⟨S25x128x64x64, .f32⟩
  | 65 => ⟨S25x64x64x64, .f32⟩
  | 66 => ⟨S25x64x64x64, .f32⟩
  | 67 => ⟨S25x64x64x64, .f32⟩
  | 68 => ⟨S64x128x1x1, .f32⟩
  | 69 => ⟨S64x128, .f32⟩
  | 70 => ⟨S25x128x64x64, .f32⟩
  | 71 => ⟨S25x64x64x64, .f32⟩
  | 72 => ⟨S25x64x64x64, .f32⟩
  | 73 => ⟨S25x64x64x64, .f32⟩
  | 74 => ⟨S_, .f32⟩
  | 75 => ⟨S25x64x64x64, .f32⟩
  | 76 => ⟨S25x64x64x64, .i1⟩
  | 77 => ⟨S_, .f32⟩
  | 78 => ⟨S25x64x64x64, .f32⟩
  | 79 => ⟨S25x64x64x64, .f32⟩
  | 80 => ⟨S25x64x64x64, .f32⟩
  | _ => ⟨S25x64x64x64, .f32⟩

abbrev hbmTy (i : Nat) : BufTy := match i / 128 with
  | 0 => hbmTy0_0 i
  | 1 => hbmTy0_1 i
  | 2 => hbmTy0_2 i
  | _ => ⟨S25x64x64x64, .f32⟩

abbrev bufTy : (tb : Table) → Fin (tcTables nBuf tb) → BufTy
  | .hbm, ⟨i, _⟩ => hbmTy i
  | _, _ => ⟨S25x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_8 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_9 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_10 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_11 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_12 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_13 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_14 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_15 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_16 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_17 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_cst_18 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_cst_19 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_call7_v0 : Ref sig .tc := ⟨.hbm, 188, rfl⟩
abbrev main_call7_v1 : Ref sig .tc := ⟨.hbm, 189, rfl⟩
abbrev main_call7_v2 : Ref sig .tc := ⟨.hbm, 190, rfl⟩
abbrev main_call7_v3 : Ref sig .tc := ⟨.hbm, 191, rfl⟩
abbrev main_call7_v4 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_cst_20 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_cst_21 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_cst_22 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_call8_v0 : Ref sig .tc := ⟨.hbm, 214, rfl⟩
abbrev main_call8_v1 : Ref sig .tc := ⟨.hbm, 215, rfl⟩
abbrev main_call8_v2 : Ref sig .tc := ⟨.hbm, 216, rfl⟩
abbrev main_call8_v3 : Ref sig .tc := ⟨.hbm, 217, rfl⟩
abbrev main_call8_v4 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_cst_23 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_cst_24 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_cst_25 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_values : Ref sig .tc := ⟨.hbm, 243, rfl⟩
abbrev main_indices : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_call9_c : Ref sig .tc := ⟨.hbm, 248, rfl⟩
abbrev main_call9_v0 : Ref sig .tc := ⟨.hbm, 249, rfl⟩
abbrev main_call9_v1 : Ref sig .tc := ⟨.hbm, 250, rfl⟩
abbrev main_call9_c_0 : Ref sig .tc := ⟨.hbm, 251, rfl⟩
abbrev main_call9_v2 : Ref sig .tc := ⟨.hbm, 252, rfl⟩
abbrev main_call9_v3 : Ref sig .tc := ⟨.hbm, 253, rfl⟩
abbrev main_call9_v4 : Ref sig .tc := ⟨.hbm, 254, rfl⟩
abbrev main_call9_v5 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_cst_26 : Ref sig .tc := ⟨.hbm, 263, rfl⟩
abbrev main_v178 : Ref sig .tc := ⟨.hbm, 264, rfl⟩
abbrev main_v179 : Ref sig .tc := ⟨.hbm, 265, rfl⟩
abbrev main_cst_27 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_c : Ref sig .tc := ⟨.hbm, 271, rfl⟩
abbrev main_call11_v0 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_cst_28 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_cst_29 : Ref sig .tc := ⟨.hbm, 330, rfl⟩
abbrev main_v240 : Ref sig .tc := ⟨.hbm, 331, rfl⟩
abbrev main_v241 : Ref sig .tc := ⟨.hbm, 332, rfl⟩
abbrev main_cst_30 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩

abbrev nD : Nat := 1
abbrev τ : Topo := Topo.v7x

variable {F : FTy → Type} [FloatOps F]
-- ==== Proof.Frames.lean ====
/- The frame claims and the claim about the named constant.

   Both printed kernels and the reference run to the end from any memory, leave their arguments as they were, and end
   with every semaphore counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof

open Idealize.ShloMosaic Idealize.SL.Sem

theorem frame_kernel : quiescent_Kernel (hKernel := Cert.Kernel.Gen.facts) :=
  fun m g _ => Cert.Kernel.Gen.frame m g

theorem frame_ideal : quiescent_KernelIdeal (hKernelIdeal := Cert.KernelIdeal.Gen.facts) :=
  fun m g _ => Cert.KernelIdeal.Gen.frame m g

theorem frame_reference : quiescent_ReferenceIdeal (hReferenceIdeal := Cert.ReferenceIdeal.Gen.facts) := fun m g _ =>
  (θ_run _ _ _).mono (fun r h => ⟨fun c => ⟨(h c).2.1, (h c).2.2.1, (h c).2.2.2⟩, sem_eq_zero_of_no_sems (by decide) r.2⟩)
    (Cert.ReferenceIdeal.Value.run m g)

theorem preserves : preserves_Kernel_KernelIdeal :=
  IdealRules.named_const.statement Cert.KernelIdeal.κ "big" .f32 0x7F61B1E6#32 ⊤ rfl

end Cert.Proof

end
-- ==== Proof.Pick.lean ====
/- Choosing the smallest entries of a column, twice over.

   One way takes the least index at which the column is smallest, overwrites that entry with `⊤`, and repeats. The
   other sorts the column stably. While no entry is `⊤` the first `k` picks are the first `k` sorted positions. -/
module

public import Idealize.ShloMosaic.Lib.SortFacts
public import Idealize.ShloMosaic.Lib.SortPrefix
public import Idealize.ShloMosaic.PureOps.Ideal

@[expose] public section

noncomputable section

namespace Cert.Pick

open Idealize.ShloMosaic

variable {n : Nat}

/-- `p` is the least index at which the column `f` takes its minimum. -/
def IsPick (f : Fin n → EReal) (p : Fin n) : Prop := (∀ q, f p ≤ f q) ∧ ∀ q, q < p → f p < f q

theorem IsPick.unique {f : Fin n → EReal} {p q : Fin n} (hp : IsPick f p) (hq : IsPick f q) : p = q := by
  rcases lt_trichotomy p q with h | h | h
  · exact absurd (hq.2 p h) (not_lt.mpr (hp.1 q))
  · exact h
  · exact absurd (hp.2 q h) (not_lt.mpr (hq.1 p))

theorem exists_isPick [NeZero n] (f : Fin n → EReal) : ∃ p, IsPick f p := by
  classical
  obtain ⟨m, -, hm⟩ := Finset.exists_min_image Finset.univ f ⟨(0 : Fin n), Finset.mem_univ _⟩
  have hne : (Finset.univ.filter fun q => f q = f m).Nonempty := ⟨m, by simp⟩
  refine ⟨(Finset.univ.filter fun q => f q = f m).min' hne, ?_⟩
  have hmem := Finset.min'_mem _ hne
  rw [Finset.mem_filter] at hmem
  refine ⟨fun q => by rw [hmem.2]; exact hm q (Finset.mem_univ q), fun q hq => ?_⟩
  rw [hmem.2]
  refine lt_of_le_of_ne (hm q (Finset.mem_univ q)) fun e => ?_
  exact absurd (Finset.min'_le _ q (by simp [e])) (not_le.mpr hq)

/-- The least index at which the column is smallest. -/
def pick [NeZero n] (f : Fin n → EReal) : Fin n := (exists_isPick f).choose

theorem pick_spec [NeZero n] (f : Fin n → EReal) : IsPick f (pick f) := (exists_isPick f).choose_spec

theorem pick_eq [NeZero n] {f : Fin n → EReal} {p : Fin n} (h : IsPick f p) : pick f = p := (pick_spec f).unique h

/-- The column after `k` picks, each picked entry overwritten with `⊤`. -/
def left [NeZero n] (f : Fin n → EReal) : Nat → Fin n → EReal
  | 0 => f
  | k + 1 => Function.update (left f k) (pick (left f k)) ⊤

/-- The index taken by pick number `k`. -/
def sel [NeZero n] (f : Fin n → EReal) (k : Nat) : Fin n := pick (left f k)

variable [NeZero n]

theorem left_succ (f : Fin n → EReal) (k : Nat) : left f (k + 1) = Function.update (left f k) (sel f k) ⊤ := rfl

theorem left_of_ne (f : Fin n → EReal) (k : Nat) (p : Fin n) (h : ∀ j, j < k → sel f j ≠ p) : left f k p = f p := by
  induction k with
  | zero => rfl
  | succ k ih =>
    rw [left_succ, Function.update_of_ne fun e => h k (Nat.lt_succ_self k) e.symm]
    exact ih fun j hj => h j (Nat.lt_succ_of_lt hj)

theorem left_sel (f : Fin n → EReal) (k j : Nat) (hj : j < k) : left f k (sel f j) = ⊤ := by
  induction k with
  | zero => exact absurd hj (Nat.not_lt_zero j)
  | succ k ih =>
    rw [left_succ]
    by_cases e : sel f j = sel f k
    · rw [e, Function.update_self]
    · rw [Function.update_of_ne e]
      exact ih (lt_of_le_of_ne (Nat.le_of_lt_succ hj) fun h => e (h ▸ rfl))

/-- While fewer than `n` entries are gone, a pick is an entry that was still there. -/
theorem sel_fresh (f : Fin n → EReal) (hf : ∀ p, f p ≠ ⊤) (k : Nat) (hk : k < n) (j : Nat) (hj : j < k) :
    sel f j ≠ sel f k := by
  classical
  intro e
  obtain ⟨p, hp⟩ : ∃ p, p ∉ (Finset.range k).image (sel f) := by
    by_contra hall
    rw [not_exists] at hall
    have h1 : (Finset.univ : Finset (Fin n)) ⊆ (Finset.range k).image (sel f) := fun p _ => not_not.mp (hall p)
    have h2 := Finset.card_le_card h1
    have h3 := (Finset.card_image_le (s := Finset.range k) (f := sel f))
    rw [Finset.card_univ, Fintype.card_fin] at h2
    rw [Finset.card_range] at h3
    omega
  have hp' : ∀ i, i < k → sel f i ≠ p := fun i hi e' => hp (Finset.mem_image.mpr ⟨i, Finset.mem_range.mpr hi, e'⟩)
  have hmin := (pick_spec (left f k)).1 p
  rw [left_of_ne f k p hp'] at hmin
  have htop : left f k (pick (left f k)) = ⊤ := by
    have := left_sel f k j hj
    rw [e] at this
    exact this
  rw [htop] at hmin
  exact hf p (top_le_iff.mp hmin)

/-- Two orders that agree on every ordered pair of a list sort it alike. -/
theorem stableSort_congr_ordered {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    refine insertBefore_congr R R' a _ fun b hb => ?_
    exact h.1 b ((perm_stableSort R' l).mem_iff.mp hb)

theorem sortedFrom_congr_ordered (R R' : Fin n → Fin n → Bool) (h : ∀ a b, a < b → R b a = R' b a) :
    sortedFrom R = sortedFrom R' := by
  funext k
  unfold sortedFrom
  rw [List.get_of_eq (show sortPositions n R = sortPositions n R' from
    stableSort_congr_ordered R R' _ ((List.pairwise_lt_finRange n).imp fun {a b} hab => h a b hab))]
  rfl

/-- The first `k` positions of the stable sort by `<` are the first `k` picks. -/
theorem sortedFrom_eq_sel (f : Fin n → EReal) (hf : ∀ p, f p ≠ ⊤) (k : Nat) (hk : k ≤ n) (i : Fin k) :
    sortedFrom (fun p q => decide (f p < f q)) (i.castLE hk) = sel f i.val := by
  rw [sortedFrom_congr_ordered (fun p q => decide (f p < f q))
    (fun p q => decide (f p < f q) || (decide (f p = f q) && decide (p < q)))
    (fun a b hab => by simp [not_lt.mpr hab.le])]
  refine (StrictTotalBefore.of_key_then_position (fun a b : EReal => decide (a < b)) f (by simp)
    (fun a b c hab hbc => by simp only [decide_eq_true_eq] at hab hbc ⊢; exact hab.trans hbc)
    (fun a b => by simp only [decide_eq_true_eq]; exact lt_trichotomy a b)).sortedFrom_eq_of_prefix hk
      (fun i : Fin k => sel f i.val) ?_ ?_ ?_ i
  · intro i j e
    rcases lt_trichotomy i.val j.val with h | h | h
    · exact absurd e (sel_fresh f hf j.val (by omega) i.val h)
    · exact Fin.ext h
    · exact absurd e.symm (sel_fresh f hf i.val (by omega) j.val h)
  · intro i j hij
    have hfresh : ∀ l, l < i.val → sel f l ≠ sel f j.val := fun l hl =>
      sel_fresh f hf j.val (by omega) l (by have : i.val < j.val := hij; omega)
    have hi : left f i.val (sel f i.val) = f (sel f i.val) :=
      left_of_ne f _ _ fun l hl => sel_fresh f hf i.val (by omega) l hl
    have hj : left f i.val (sel f j.val) = f (sel f j.val) := left_of_ne f _ _ hfresh
    have h1 := (pick_spec (left f i.val)).1 (sel f j.val)
    have h2 := (pick_spec (left f i.val)).2 (sel f j.val)
    change left f i.val (sel f i.val) ≤ _ at h1
    change _ → left f i.val (sel f i.val) < _ at h2
    rw [hi, hj] at h1 h2
    simp only [Bool.or_eq_false_iff, Bool.and_eq_false_iff, decide_eq_false_iff_not, not_lt]
    refine ⟨h1, ?_⟩
    by_cases h : sel f j.val < sel f i.val
    · exact Or.inl fun e => absurd (h2 h) (by rw [e]; exact lt_irrefl _)
    · exact Or.inr (not_lt.mp h)
  · intro i p hp
    have hfresh : ∀ l, l < i.val → sel f l ≠ p := fun l hl => hp ⟨l, by omega⟩
    have hi : left f i.val (sel f i.val) = f (sel f i.val) :=
      left_of_ne f _ _ fun l hl => sel_fresh f hf i.val (by omega) l hl
    have hj : left f i.val p = f p := left_of_ne f _ _ hfresh
    have h1 := (pick_spec (left f i.val)).1 p
    have h2 := (pick_spec (left f i.val)).2 p
    change left f i.val (sel f i.val) ≤ _ at h1
    change _ → left f i.val (sel f i.val) < _ at h2
    rw [hi, hj] at h1 h2
    simp only [Bool.or_eq_false_iff, Bool.and_eq_false_iff, decide_eq_false_iff_not, not_lt]
    refine ⟨h1, ?_⟩
    by_cases h : p < sel f i.val
    · exact Or.inl fun e => absurd (h2 h) (by rw [e]; exact lt_irrefl _)
    · exact Or.inr (not_lt.mp h)

end Cert.Pick

end
-- ==== Proof.Spec.lean ====
/- The mathematics both programs compute, over the input image as a function of plain coordinates.

   An image has 25 views of 64 channels of `64 × 64` pixels. It is cut into `16 × 16` patches of `4 × 4` pixels; patch
   `b` of a view is a vector of 1024 entries, entry `d = 16 * channel + 4 * row + column`. -/
module

public import proofs.«01_k».proof.Proof.Pick
public import Idealize.ShloMosaic.Lib.Pointwise

@[expose] public section

noncomputable section

namespace Cert.Spec

open Idealize.ShloMosaic Cert.Pick

abbrev Img : Shape := ⟨4, ![25, 64, 64, 64]⟩
abbrev Mix : Shape := ⟨4, ![64, 384, 1, 1]⟩
abbrev Taps : Shape := ⟨4, ![64, 128, 3, 3]⟩

/-- The leaky rectifier with the slope both programs write. -/
def lrelu (x : EReal) : EReal := if 0 ≤ x then x else Ideal.ofBits .f32 0x3DCCCCCD#32 * x

/-- The pixel of channel `c` of view `v` at row `h` and column `w`, rows and columns taken around the edge. -/
def px (x : Img.Idx → EReal) (v c h w : Nat) : EReal :=
  x (ix4 ⟨v % 25, Nat.mod_lt _ (by decide)⟩ ⟨c % 64, Nat.mod_lt _ (by decide)⟩ ⟨h % 64, Nat.mod_lt _ (by decide)⟩
    ⟨w % 64, Nat.mod_lt _ (by decide)⟩)

theorem px_eq (x : Img.Idx → EReal) (v : Fin 25) (c h w : Fin 64) : x (ix4 v c h w) = px x v c h w := by
  unfold px
  congr 1
  simp only [Nat.mod_eq_of_lt (Fin.isLt _)]

theorem px_congr (x : Img.Idx → EReal) {v c h w v' c' h' w' : Nat} (hv : v % 25 = v' % 25) (hc : c % 64 = c' % 64)
    (hh : h % 64 = h' % 64) (hw : w % 64 = w' % 64) : px x v c h w = px x v' c' h' w' := by
  unfold px
  simp only [hv, hc, hh, hw]

/-- Entry `d` of patch `b` of view `u`. -/
def qry (x : Img.Idx → EReal) (b d u : Nat) : EReal :=
  px x u (d / 16) (4 * (b / 16) + d % 16 / 4) (4 * (b % 16) + d % 4)

/-- Entry `d` of candidate `p` for patch `b`: candidate `p = 25 n + v` is the patch of view `v` of the image moved
    `2 (n / 3)` rows down and `2 (n % 3)` columns right, around the edge. -/
def cnd (x : Img.Idx → EReal) (b d p : Nat) : EReal :=
  px x p (d / 16) (4 * (b / 16) + d % 16 / 4 + 64 - 2 * (p / 75)) (4 * (b % 16) + d % 4 + 64 - 2 * (p / 25 % 3))

/-- The squared distance of candidate `p` and the patch `b` of view `u`, written out as both programs form it. -/
def dst (x : Img.Idx → EReal) (b u p : Nat) : EReal :=
  (Ideal.ofBits .f32 0xC0000000#32 * (∑ d : Fin 1024, cnd x b d p * qry x b d u)
    + ∑ d : Fin 1024, qry x b d u * qry x b d u) + ∑ d : Fin 1024, cnd x b d p * cnd x b d p

/-- The `k`-th nearest candidate to patch `b` of view `u`. -/
def nth (x : Img.Idx → EReal) (b u k : Nat) : Nat := (sel (fun p : Fin 225 => dst x b u p) k).val

/-- The six picked candidates mixed by the 1×1 convolution, at output channel `o`, patch `b`, place `t` of the patch. -/
def mixed (x : Img.Idx → EReal) (w1 : Mix.Idx → EReal) (b t u : Nat) (o : Fin 64) : EReal :=
  lrelu (∑ r : Fin 384, w1 (ix4 o r 0 0) * cnd x b (16 * (r.val % 64) + t) (nth x b u (r.val / 64)))

/-- The image the mixed patches make, at row `h` and column `w`. -/
def mend (x : Img.Idx → EReal) (w1 : Mix.Idx → EReal) (u : Fin 25) (o : Fin 64) (h w : Nat) : EReal :=
  mixed x w1 (16 * (h / 4) + w / 4) (4 * (h % 4) + w % 4) u o

/-- The 128 channels of the second convolution: the input image, then the mended one. -/
def both (x : Img.Idx → EReal) (w1 : Mix.Idx → EReal) (u : Fin 25) (ch : Fin 128) (h w : Nat) : EReal :=
  if ch.val < 64 then px x u ch h w else mend x w1 u ⟨ch.val - 64, by have := ch.isLt; omega⟩ h w

/-- One of the nine taps of the second convolution: zero where the tap falls off the image. -/
def tap (x : Img.Idx → EReal) (w1 : Mix.Idx → EReal) (w2 : Taps.Idx → EReal) (u : Fin 25) (o : Fin 64) (h w : Nat)
    (dy dx : Fin 3) : EReal :=
  if 1 ≤ h + dy.val ∧ h + dy.val ≤ 64 ∧ 1 ≤ w + dx.val ∧ w + dx.val ≤ 64 then
    ∑ ch : Fin 128, w2 (ix4 o ch dy dx) * both x w1 u ch (h + dy.val - 1) (w + dx.val - 1)
  else 0

/-- The result of both programs. -/
def out (x : Img.Idx → EReal) (w1 : Mix.Idx → EReal) (w2 : Taps.Idx → EReal) (i : Img.Idx) : EReal :=
  lrelu (∑ t : Fin 9, tap x w1 w2 (i 0) (i 1) (i 2).val (i 3).val ⟨t.val / 3, by have := t.isLt; omega⟩
    ⟨t.val % 3, Nat.mod_lt _ (by decide)⟩)

/-- The order the kernel keeps a patch's entries in, `64 * place + channel`, as an exchange of positions. -/
def order : Fin 1024 ≃ Fin 1024 where
  toFun e := ⟨16 * (e.val % 64) + e.val / 64, by have := e.isLt; omega⟩
  invFun d := ⟨64 * (d.val % 16) + d.val / 16, by have := d.isLt; omega⟩
  left_inv e := Fin.ext (by have := e.isLt; show 64 * ((16 * (e.val % 64) + e.val / 64) % 16) + (16 * (e.val % 64) + e.val / 64) / 16 = e.val; omega)
  right_inv d := Fin.ext (by have := d.isLt; show 16 * ((64 * (d.val % 16) + d.val / 16) % 64) + (64 * (d.val % 16) + d.val / 16) / 64 = d.val; omega)

theorem order_val (e : Fin 1024) : (order e).val = 16 * (e.val % 64) + e.val / 64 := rfl

end Cert.Spec
-- ==== Proof.Host.lean ====
/- What the kernel program's own array operations compute between its two launches: the image cut into patches, the
   image rolled around its edges, and the mended image put back together. -/
module

public import proofs.«01_k».proof.Proof.Spec
public import proofs.«01_k».proof.Proof.Gen.KernelIdeal.Frame

@[expose] public section

set_option maxRecDepth 16384

noncomputable section

namespace Cert.KernelIdeal.Host

open Idealize.ShloMosaic Idealize.SL.Sem
open Cert.KernelIdeal Cert.KernelIdeal.Gen Cert.Spec

/-- The patches as columns: entry, then view. -/
def patchQ (x : FVec Ideal S25x64x64x64 .f32) : FVec Ideal S256x1024x25 .f32 :=
  shapeCast S256x1024x25 (transpose S1x16x16x4x4x64x25 [0, 3, 5, 4, 6, 2, 1]
    (shapeCast S1x25x64x16x4x16x4 x shapeCasts_S25x64x64x64_S1x25x64x16x4x16x4)
    transposes_S1x25x64x16x4x16x4_S1x16x16x4x4x64x25_0_3_5_4_6_2_1) shapeCasts_S1x16x16x4x4x64x25_S256x1024x25

/-- The patches as rows: view, then entry. -/
def patchC (x : FVec Ideal S25x64x64x64 .f32) : FVec Ideal S256x25x1024 .f32 :=
  shapeCast S256x25x1024 (transpose S1x16x16x25x4x4x64 [0, 3, 5, 1, 4, 6, 2]
    (shapeCast S1x25x64x16x4x16x4 x shapeCasts_S25x64x64x64_S1x25x64x16x4x16x4)
    transposes_S1x25x64x16x4x16x4_S1x16x16x25x4x4x64_0_3_5_1_4_6_2) shapeCasts_S1x16x16x25x4x4x64_S256x25x1024

/-- The image moved two rows down, around the edge. -/
def rollH (x : FVec Ideal S25x64x64x64 .f32) : FVec Ideal S25x64x64x64 .f32 :=
  concatenate S25x64x64x64 2
    [⟨S25x64x2x64, extractStridedSlice S25x64x2x64 ![0, 0, 62, 0] x slices_S25x64x64x64_S25x64x2x64_0_0_62_0⟩,
     ⟨S25x64x62x64, extractStridedSlice S25x64x62x64 ![0, 0, 0, 0] x slices_S25x64x64x64_S25x64x62x64_0_0_0_0⟩]
    concatenates_S25x64x2x64_S25x64x62x64_S25x64x64x64_d2

/-- The image moved two columns right, around the edge. -/
def rollW (x : FVec Ideal S25x64x64x64 .f32) : FVec Ideal S25x64x64x64 .f32 :=
  concatenate S25x64x64x64 3
    [⟨S25x64x64x2, extractStridedSlice S25x64x64x2 ![0, 0, 0, 62] x slices_S25x64x64x64_S25x64x64x2_0_0_0_62⟩,
     ⟨S25x64x64x62, extractStridedSlice S25x64x64x62 ![0, 0, 0, 0] x slices_S25x64x64x64_S25x64x64x62_0_0_0_0⟩]
    concatenates_S25x64x64x2_S25x64x64x62_S25x64x64x64_d3

theorem patchQ_at (x : FVec Ideal S25x64x64x64 .f32) (b : Fin 256) (e : Fin 1024) (u : Fin 25) :
    patchQ x (ix3 b e u) = px x u (e.val % 64) (4 * (b.val / 16) + e.val / 256) (4 * (b.val % 16) + e.val / 64 % 4) := by
  pointwise [patchQ]
  refine (px_eq x _ _ _ _).trans (px_congr x ?_ ?_ ?_ ?_) <;> dsimp only <;> omega

theorem patchC_at (x : FVec Ideal S25x64x64x64 .f32) (b : Fin 256) (v : Fin 25) (e : Fin 1024) :
    patchC x (ix3 b v e) = px x v (e.val % 64) (4 * (b.val / 16) + e.val / 256) (4 * (b.val % 16) + e.val / 64 % 4) := by
  pointwise [patchC]
  refine (px_eq x _ _ _ _).trans (px_congr x ?_ ?_ ?_ ?_) <;> dsimp only <;> omega

theorem rollH_px (x : FVec Ideal S25x64x64x64 .f32) (v c h w : Nat) : px (rollH x) v c h w = px x v c (h + 62) w := by
  unfold px
  pointwise [rollH]
  split
  · refine (px_eq x _ _ _ _).trans (px_congr x ?_ ?_ ?_ ?_) <;> dsimp only <;> omega
  · refine (px_eq x _ _ _ _).trans (px_congr x ?_ ?_ ?_ ?_) <;> dsimp only <;> omega

theorem rollW_px (x : FVec Ideal S25x64x64x64 .f32) (v c h w : Nat) : px (rollW x) v c h w = px x v c h (w + 62) := by
  unfold px
  pointwise [rollW]
  split
  · refine (px_eq x _ _ _ _).trans (px_congr x ?_ ?_ ?_ ?_) <;> dsimp only <;> omega
  · refine (px_eq x _ _ _ _).trans (px_congr x ?_ ?_ ?_ ?_) <;> dsimp only <;> omega

abbrev arg0 (m : (ℓ : Loc nD τ sig) → Buf (Elt Ideal) ℓ) (c : Dev nD) : FVec Ideal S25x64x64x64 .f32 := m (c.tc.loc main_arg0)
abbrev arg1 (m : (ℓ : Loc nD τ sig) → Buf (Elt Ideal) ℓ) (c : Dev nD) : FVec Ideal S64x384x1x1 .f32 := m (c.tc.loc main_arg1)
abbrev arg2 (m : (ℓ : Loc nD τ sig) → Buf (Elt Ideal) ℓ) (c : Dev nD) : FVec Ideal S64x128x3x3 .f32 := m (c.tc.loc main_arg2)

variable (m : (ℓ : Loc nD τ sig) → Buf (Elt Ideal) ℓ) (ρ : Dev nD → PrngReg) (c : Dev nD)

/-! ## The arrays the matching launch reads -/

theorem ops_v2 (V : Valuation τ sig (Elt Ideal)) :
    StableHlo.after hostOps0 V (Proc.devRef .tc main_v2) = patchQ (V (Proc.devRef .tc main_arg0)) := by
  after_results
  rfl

theorem ops_v5 (V : Valuation τ sig (Elt Ideal)) :
    StableHlo.after hostOps0 V (Proc.devRef .tc main_v5) = patchC (V (Proc.devRef .tc main_arg0)) := by
  after_results
  rfl

theorem ops_v6 (V : Valuation τ sig (Elt Ideal)) :
    StableHlo.after hostOps0_1 V (Proc.devRef .tc main_v6) = rollH (V (Proc.devRef .tc main_arg0)) := by
  after_results
  rfl

theorem ops_v9 (V : Valuation τ sig (Elt Ideal)) :
    StableHlo.after hostOps0_2 V (Proc.devRef .tc main_v9) = patchC (V (Proc.devRef .tc main_v6)) := by
  after_results
  rfl

theorem ops_v10 (V : Valuation τ sig (Elt Ideal)) :
    StableHlo.after hostOps0_3 V (Proc.devRef .tc main_v10) = rollW (V (Proc.devRef .tc main_arg0)) := by
  after_results
  rfl

theorem ops_v13 (V : Valuation τ sig (Elt Ideal)) :
    StableHlo.after hostOps0_4 V (Proc.devRef .tc main_v13) = patchC (V (Proc.devRef .tc main_v10)) := by
  after_results
  rfl

theorem ops_v14 (V : Valuation τ sig (Elt Ideal)) :
    StableHlo.after hostOps0_5 V (Proc.devRef .tc main_v14) = rollW (rollH (V (Proc.devRef .tc main_arg0))) := by
  after_results
  rfl

theorem ops_v17 (V : Valuation τ sig (Elt Ideal)) :
    StableHlo.after hostOps0_6 V (Proc.devRef .tc main_v17) = patchC (V (Proc.devRef .tc main_v14)) := by
  after_results
  rfl

theorem at_v2 : V7 m ρ c main_v2 = patchQ (arg0 m c) :=
  (show W7 m ρ c (Proc.devRef .tc main_v2) = W1 m ρ c (Proc.devRef .tc main_v2) by rw [W7_of m ρ c _ (by decide), W6_of m ρ c _ (by decide), W5_of m ρ c _ (by decide), W4_of m ρ c _ (by decide), W3_of m ρ c _ (by decide), W2_of m ρ c _ (by decide)]).trans
    (ops_v2 (W0 m ρ c))

theorem at_v5 : V7 m ρ c main_v5 = patchC (arg0 m c) :=
  (show W7 m ρ c (Proc.devRef .tc main_v5) = W1 m ρ c (Proc.devRef .tc main_v5) by rw [W7_of m ρ c _ (by decide), W6_of m ρ c _ (by decide), W5_of m ρ c _ (by decide), W4_of m ρ c _ (by decide), W3_of m ρ c _ (by decide), W2_of m ρ c _ (by decide)]).trans
    (ops_v5 (W0 m ρ c))

theorem at_v6 : W2 m ρ c (Proc.devRef .tc main_v6) = rollH (arg0 m c) :=
  (ops_v6 (W1 m ρ c)).trans (congrArg rollH (W1_args m ρ c main_arg0 (by decide)))

theorem at_v9 : V7 m ρ c main_v9 = patchC (rollH (arg0 m c)) :=
  (show W7 m ρ c (Proc.devRef .tc main_v9) = W3 m ρ c (Proc.devRef .tc main_v9) by rw [W7_of m ρ c _ (by decide), W6_of m ρ c _ (by decide), W5_of m ρ c _ (by decide), W4_of m ρ c _ (by decide)]).trans
    ((ops_v9 (W2 m ρ c)).trans (congrArg patchC (at_v6 m ρ c)))

theorem at_v10 : W4 m ρ c (Proc.devRef .tc main_v10) = rollW (arg0 m c) :=
  (ops_v10 (W3 m ρ c)).trans (congrArg rollW (W3_args m ρ c main_arg0 (by decide)))

theorem at_v13 : V7 m ρ c main_v13 = patchC (rollW (arg0 m c)) :=
  (show W7 m ρ c (Proc.devRef .tc main_v13) = W5 m ρ c (Proc.devRef .tc main_v13) by rw [W7_of m ρ c _ (by decide), W6_of m ρ c _ (by decide)]).trans
    ((ops_v13 (W4 m ρ c)).trans (congrArg patchC (at_v10 m ρ c)))

theorem at_v14 : W6 m ρ c (Proc.devRef .tc main_v14) = rollW (rollH (arg0 m c)) :=
  (ops_v14 (W5 m ρ c)).trans (congrArg (fun x => rollW (rollH x)) (W5_args m ρ c main_arg0 (by decide)))

theorem at_v17 : V7 m ρ c main_v17 = patchC (rollW (rollH (arg0 m c))) :=
  (ops_v17 (W6 m ρ c)).trans (congrArg patchC (at_v14 m ρ c))

/-- The 1×1 convolution's weights as a matrix. -/
def mix (w : FVec Ideal S64x384x1x1 .f32) : FVec Ideal S64x384 .f32 := shapeCast S64x384 w shapeCasts_S64x384x1x1_S64x384

theorem mix_at (w : FVec Ideal S64x384x1x1 .f32) (o : Fin 64) (r : Fin 384) : mix w (ix2 o r) = w (ix4 o r 0 0) := by
  pointwise [mix]

theorem ops_v18 (V : Valuation τ sig (Elt Ideal)) :
    StableHlo.after hostOps0_6 V (Proc.devRef .tc main_v18) = mix (V (Proc.devRef .tc main_arg1)) := by
  after_results
  rfl

theorem at_v18 : V7 m ρ c main_v18 = mix (arg1 m c) :=
  (ops_v18 (W6 m ρ c)).trans (congrArg mix (W6_args m ρ c main_arg1 (by decide)))

/-! ## The arrays the second convolution reads, and the result -/

/-- The patches' columns put back in place as an image, a row of 4096 pixels to a channel. -/
def place (y : FVec Ideal S256x64x512 .f32) : FVec Ideal S25x64x4096 .f32 :=
  shapeCast S25x64x4096 (transpose S25x64x16x4x16x4 [5, 2, 0, 3, 1, 4]
    (extractStridedSlice S16x16x64x4x4x25 ![0, 0, 0, 0, 0, 0]
      (shapeCast S16x16x64x4x4x32 y shapeCasts_S256x64x512_S16x16x64x4x4x32)
      slices_S16x16x64x4x4x32_S16x16x64x4x4x25_0_0_0_0_0_0)
    transposes_S16x16x64x4x4x25_S25x64x16x4x16x4_5_2_0_3_1_4) shapeCasts_S25x64x16x4x16x4_S25x64x4096

theorem place_at (y : FVec Ideal S256x64x512 .f32) (u : Fin 25) (o : Fin 64) (l : Fin 4096) :
    place y (ix3 u o l)
      = y (ix3 ⟨16 * (l.val / 64 / 4) + l.val % 64 / 4, by have := l.isLt; omega⟩ o
          ⟨32 * (4 * (l.val / 64 % 4) + l.val % 64 % 4) + u.val, by have := u.isLt; omega⟩) := by
  pointwise [place]
  congr 1
  idx_ext <;> dsimp only <;> omega

def flat (x : FVec Ideal S25x64x64x64 .f32) : FVec Ideal S25x64x4096 .f32 :=
  shapeCast S25x64x4096 x shapeCasts_S25x64x64x64_S25x64x4096

theorem flat_at (x : FVec Ideal S25x64x64x64 .f32) (u : Fin 25) (o : Fin 64) (l : Fin 4096) :
    flat x (ix3 u o l) = px x u o (l.val / 64) (l.val % 64) := by
  pointwise [flat]
  refine (px_eq x _ _ _ _).trans (px_congr x ?_ ?_ ?_ ?_) <;> dsimp only <;> omega

/-- The second convolution's weights, tap first. -/
def taps (w : FVec Ideal S64x128x3x3 .f32) : FVec Ideal S9x64x128 .f32 :=
  shapeCast S9x64x128 (transpose S3x3x64x128 [2, 3, 0, 1] w transposes_S64x128x3x3_S3x3x64x128_2_3_0_1)
    shapeCasts_S3x3x64x128_S9x64x128

theorem taps_at (w : FVec Ideal S64x128x3x3 .f32) (t : Fin 9) (o : Fin 64) (ch : Fin 128) :
    taps w (ix3 t o ch) = w (ix4 o ch ⟨t.val / 3, by have := t.isLt; omega⟩ ⟨t.val % 3, Nat.mod_lt _ (by decide)⟩) := by
  pointwise [taps]

def square (y : FVec Ideal S25x64x4096 .f32) : FVec Ideal S25x64x64x64 .f32 :=
  shapeCast S25x64x64x64 y shapeCasts_S25x64x4096_S25x64x64x64

theorem square_at (y : FVec Ideal S25x64x4096 .f32) (u : Fin 25) (o h w : Fin 64) :
    square y (ix4 u o h w) = y (ix3 u o ⟨64 * h.val + w.val, by have := h.isLt; have := w.isLt; omega⟩) := by
  pointwise [square]
  congr 1
  idx_ext <;> dsimp only <;> omega

theorem ops_v23 (V : Valuation τ sig (Elt Ideal)) :
    StableHlo.after hostOps1 V (Proc.devRef .tc main_v23) = place (V (Proc.devRef .tc main_v19)) := by
  after_results
  rfl

theorem ops_v24 (V : Valuation τ sig (Elt Ideal)) :
    StableHlo.after hostOps1 V (Proc.devRef .tc main_v24) = flat (V (Proc.devRef .tc main_arg0)) := by
  after_results
  rfl

theorem ops_v26 (V : Valuation τ sig (Elt Ideal)) :
    StableHlo.after hostOps1 V (Proc.devRef .tc main_v26) = taps (V (Proc.devRef .tc main_arg2)) := by
  after_results
  rfl

theorem ops_v28 (V : Valuation τ sig (Elt Ideal)) :
    StableHlo.after hostOps2 V (Proc.devRef .tc main_v28) = square (V (Proc.devRef .tc main_v27)) := by
  after_results
  rfl

theorem at_v23 : V9 m ρ c main_v23 = place (W8 m ρ c (Proc.devRef .tc main_v19)) := ops_v23 (W8 m ρ c)

theorem at_v24 : V9 m ρ c main_v24 = flat (arg0 m c) :=
  (ops_v24 (W8 m ρ c)).trans (congrArg flat (W8_args m ρ c main_arg0 (by decide)))

theorem at_v26 : V9 m ρ c main_v26 = taps (arg2 m c) :=
  (ops_v26 (W8 m ρ c)).trans (congrArg taps (W8_args m ρ c main_arg2 (by decide)))

theorem at_v28 : W11 m ρ c (Proc.devRef .tc main_v28) = square (W10 m ρ c (Proc.devRef .tc main_v27)) := ops_v28 (W10 m ρ c)

end Cert.KernelIdeal.Host
-- ==== Proof.Maps.lean ====
/- Which block of its array each window of the two launches shows at a grid point. -/
module

public import proofs.«01_k».proof.Proof.Gen.KernelIdeal.Frame
public import Idealize.ShloMosaic.Lib.Pipeline.ValueKit

@[expose] public section

set_option maxRecDepth 16384

noncomputable section

namespace Cert.KernelIdeal.Maps

open Idealize.ShloMosaic Idealize.SL.Sem Idealize.ShloMosaic.Pipeline
open Cert.KernelIdeal Cert.KernelIdeal.Gen

/-! ## Which block of its array a window shows at grid point `t` -/

/-- Patch `t` moved `i` patches up and `j` patches left, around the edge. -/
def moved (i j t : Nat) : Nat := 16 * ((t / 16 + 16 - i) % 16) + (t % 16 + 16 - j) % 16

theorem index0 : ∀ t : Fin cfg0.N, win0_0.index t = ![t.val, 0, 0] := (by decide +kernel : ∀ t : Fin grid0.N, _)
theorem index1 : ∀ t : Fin cfg0.N, win0_1.index t = ![moved 0 0 t.val, 0, 0] := (by decide +kernel : ∀ t : Fin grid0.N, _)
theorem index2 : ∀ t : Fin cfg0.N, win0_2.index t = ![moved 0 0 t.val, 0, 0] := (by decide +kernel : ∀ t : Fin grid0.N, _)
theorem index3 : ∀ t : Fin cfg0.N, win0_3.index t = ![moved 0 1 t.val, 0, 0] := (by decide +kernel : ∀ t : Fin grid0.N, _)
theorem index4 : ∀ t : Fin cfg0.N, win0_4.index t = ![moved 0 0 t.val, 0, 0] := (by decide +kernel : ∀ t : Fin grid0.N, _)
theorem index5 : ∀ t : Fin cfg0.N, win0_5.index t = ![moved 0 0 t.val, 0, 0] := (by decide +kernel : ∀ t : Fin grid0.N, _)
theorem index6 : ∀ t : Fin cfg0.N, win0_6.index t = ![moved 0 1 t.val, 0, 0] := (by decide +kernel : ∀ t : Fin grid0.N, _)
theorem index7 : ∀ t : Fin cfg0.N, win0_7.index t = ![moved 1 0 t.val, 0, 0] := (by decide +kernel : ∀ t : Fin grid0.N, _)
theorem index8 : ∀ t : Fin cfg0.N, win0_8.index t = ![moved 1 0 t.val, 0, 0] := (by decide +kernel : ∀ t : Fin grid0.N, _)
theorem index9 : ∀ t : Fin cfg0.N, win0_9.index t = ![moved 1 1 t.val, 0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![t.val, 0, 0] := (by decide +kernel : ∀ t : Fin grid0.N, _)
theorem index1_0 : ∀ t : Fin cfg1.N, win1_0.index t = ![t.val, 0, 0] := (by decide +kernel : ∀ t : Fin grid1.N, _)
theorem index1_1 : ∀ t : Fin cfg1.N, win1_1.index t = ![t.val, 0, 0] := (by decide +kernel : ∀ t : Fin grid1.N, _)
theorem index1_2 : ∀ t : Fin cfg1.N, win1_2.index t = ![0, 0, 0] := (by decide +kernel : ∀ t : Fin grid1.N, _)
theorem index1_3 : ∀ t : Fin cfg1.N, win1_3.index t = ![t.val, 0, 0] := (by decide +kernel : ∀ t : Fin grid1.N, _)

end Cert.KernelIdeal.Maps
-- ==== Proof.Cands.lean ====
/- The blocks of patches and candidates the matching kernel is given, as plain reads of the image. -/
module

public import proofs.«01_k».proof.Proof.Host
public import proofs.«01_k».proof.Proof.Maps

@[expose] public section

set_option maxRecDepth 16384

noncomputable section

namespace Cert.KernelIdeal.Cands

open Idealize.ShloMosaic Idealize.SL.Sem Idealize.ShloMosaic.Pipeline
open Cert.KernelIdeal Cert.KernelIdeal.Gen Cert.Spec Cert.KernelIdeal.Host Cert.Pick Cert.KernelIdeal.Maps

/-! ## The blocks, by coordinates -/

/-- The block of patch columns at patch `b`. -/
def qblk (x : FVec Ideal S25x64x64x64 .f32) (b : Nat) : FVec Ideal S1x1024x25 .f32 := fun j => qry x b (order (j 1)) (j 2).val

/-- The block of candidate rows at patch `b` for the `n`-th move. -/
def cblk (x : FVec Ideal S25x64x64x64 .f32) (b n : Nat) : FVec Ideal S1x25x1024 .f32 :=
  fun j => cnd x b (order (j 2)) (25 * n + (j 1).val)

theorem moved_lt (i j t : Nat) : moved i j t < 256 := by unfold moved; omega

theorem cand_at (x y : FVec Ideal S25x64x64x64 .f32) (i j r s : Nat) (hr : r < 2) (hs : s < 2) (hi : i < 2) (hj : j < 2)
    (hy : ∀ v c h w, px y v c h w = px x v c (h + 62 * r) (w + 62 * s)) (n : Nat) (hn : n = 3 * (2 * i + r) + (2 * j + s))
    (hij : 2 * j + s < 3) (b : Fin 256) (v : Fin 25) (e : Fin 1024) :
    patchC y (ix3 ⟨moved i j b.val, moved_lt ..⟩ v e) = cnd x b (order e) (25 * n + v) := by
  have hv := v.isLt
  have he := e.isLt
  have hb := b.isLt
  rw [patchC_at, hy, cnd, order_val]
  dsimp only
  have e1 : (25 * n + v.val) / 75 = 2 * i + r := by omega
  have e2 : (25 * n + v.val) / 25 % 3 = 2 * j + s := by omega
  have m1 : moved i j b.val / 16 = (b.val / 16 + 16 - i) % 16 := by unfold moved; omega
  have m2 : moved i j b.val % 16 = (b.val % 16 + 16 - j) % 16 := by unfold moved; omega
  have o1 : (16 * (e.val % 64) + e.val / 64) / 16 = e.val % 64 := by omega
  have o2 : (16 * (e.val % 64) + e.val / 64) % 16 = e.val / 64 := by omega
  have o3 : (16 * (e.val % 64) + e.val / 64) % 4 = e.val / 64 % 4 := by omega
  rw [e1, e2, m1, m2, o1, o2, o3]
  clear e1 e2 m1 m2 o1 o2 o3 hy
  refine px_congr x (by omega) rfl ?_ ?_
  · clear hs hj hij
    have : i = 0 ∨ i = 1 := by omega
    have : r = 0 ∨ r = 1 := by omega
    omega
  · have : j = 0 ∨ j = 1 := by omega
    have : s = 0 ∨ s = 1 := by omega
    omega

theorem qblk_at (x : FVec Ideal S25x64x64x64 .f32) (b : Fin 256) (z : Fin 1) (e : Fin 1024) (u : Fin 25) :
    patchQ x (ix3 b e u) = qblk x b (ix3 z e u) := by
  have he := e.isLt
  rw [patchQ_at]
  show _ = qry x b (order e) u
  rw [qry, order_val]
  have o1 : (16 * (e.val % 64) + e.val / 64) / 16 = e.val % 64 := by omega
  have o2 : (16 * (e.val % 64) + e.val / 64) % 16 = e.val / 64 := by omega
  have o3 : (16 * (e.val % 64) + e.val / 64) % 4 = e.val / 64 % 4 := by omega
  rw [o1, o2, o3]
  clear o1 o2 o3
  exact px_congr x rfl rfl (by omega) rfl

end Cert.KernelIdeal.Cands
-- ==== Proof.Rounds.lean ====
/- One round of the matching block, read at coordinates.

   A round looks at a `225 × 25` table of distances, candidates down and views across: it takes in every column the
   least row that holds the column's minimum, as a table of bits, and overwrites those entries with the named `big`,
   which is `⊤` here. -/
module

public import proofs.«01_k».proof.Proof.Pick
public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Rounds

open Idealize.ShloMosaic Idealize.SL.Sem
open Cert.KernelIdeal Cert.KernelIdeal.Gen Cert.Pick

/-- The row numbers of the table. -/
def rowNo : IVec S225x25 32 := iota .tc S225x25 32 [0] iota_S225x25_d0_w32

/-- The minimum of every column. -/
def colMin (d : FVec Ideal S225x25 .f32) : FVec Ideal S25 .f32 :=
  multiReduction .minimumf [0] S25 d 0x7F800000#32 reduces_S225x25_S25 (.inl rfl) rfl

/-- The row numbers where the column's minimum sits, 225 elsewhere. -/
def atMin (d : FVec Ideal S225x25 .f32) : IVec S225x25 32 :=
  select (cmpf .oeq d (broadcastTo S225x25 (shapeCast S1x25 (colMin d) shapeCasts_S25_S1x25) broadcasts_S1x25_S225x25)) rowNo
    (broadcast S225x25 225#32)

/-- The least row number at the minimum, per column. -/
def argMin (d : FVec Ideal S225x25 .f32) : IVec S25 32 :=
  multiReductionI .minsi [0] S25 (atMin d) 2147483647#32 reduces_S225x25_S25 rfl

/-- The table of bits marking row `a` of every column. -/
def mark (a : IVec S25 32) : IVec S225x25 1 :=
  cmpi .eq rowNo (broadcastTo S225x25 (shapeCast S1x25 a shapeCasts_S25_S1x25) broadcasts_S1x25_S225x25)

/-- The table with the marked entries overwritten. -/
def overwrite (h : IVec S225x25 1) (d : FVec Ideal S225x25 .f32) : FVec Ideal S225x25 .f32 :=
  select h (broadcast S225x25 (Named.named κ "big" 0x7F61B1E6#32)) d

theorem ofBits_inf : Ideal.ofBits .f32 0x7F800000#32 = (⊤ : EReal) := by simp [Ideal.ofBits, Ideal.ieee]

theorem colMin_at (d : FVec Ideal S225x25 .f32) (u : Fin 25) :
    colMin d (ix1 u) = d (ix2 (pick fun p => d (ix2 p u)) u) := by
  pointwise [colMin]
  rw [ofBits_inf]
  have h := (pick_spec fun p => d (ix2 p u)).1
  refine le_antisymm ((Finset.fold_min_le _).mpr (Or.inr ⟨_, Finset.mem_univ _, le_refl _⟩)) ?_
  exact (Finset.le_fold_min _).mpr ⟨le_top, fun q _ => h q⟩

/-- A fold of signed minimums is below every entry, and is an entry or the starting word. -/
theorem fold_minsi {ι : Type} [DecidableEq ι] (b : BitVec 32) (f : ι → BitVec 32) (s : Finset ι) :
    (∀ x ∈ s, (Finset.fold IntOp.minsi b f s).toInt ≤ (f x).toInt) ∧
      (Finset.fold IntOp.minsi b f s = b ∨ ∃ x ∈ s, Finset.fold IntOp.minsi b f s = f x) := by
  induction s using Finset.induction_on with
  | empty => exact ⟨fun x hx => absurd hx (Finset.notMem_empty x), Or.inl rfl⟩
  | insert a s ha ih =>
    rw [Finset.fold_insert ha, show IntOp.minsi (f a) (Finset.fold IntOp.minsi b f s)
      = if (f a).slt (Finset.fold IntOp.minsi b f s) then f a else Finset.fold IntOp.minsi b f s from rfl]
    by_cases h : (f a).slt (Finset.fold IntOp.minsi b f s) = true
    · rw [if_pos h]
      rw [BitVec.slt_iff_toInt_lt] at h
      refine ⟨fun x hx => ?_, Or.inr ⟨a, Finset.mem_insert_self a s, rfl⟩⟩
      rcases Finset.mem_insert.mp hx with rfl | hx
      · exact le_refl _
      · exact h.le.trans (ih.1 x hx)
    · rw [if_neg h]
      rw [BitVec.slt_iff_toInt_lt, not_lt] at h
      refine ⟨fun x hx => ?_, ih.2.imp id fun ⟨x, hx, e⟩ => ⟨x, Finset.mem_insert_of_mem hx, e⟩⟩
      rcases Finset.mem_insert.mp hx with rfl | hx
      · exact h
      · exact ih.1 x hx

theorem toInt_small (k : Nat) (hk : k < 2 ^ 31) : (BitVec.ofNat 32 k).toInt = (k : Int) :=
  WordCmp.toInt_ofNat_of_lt (w := 32) hk

theorem argMin_at (d : FVec Ideal S225x25 .f32) (u : Fin 25) :
    argMin d (ix1 u) = BitVec.ofNat 32 (pick fun p => d (ix2 p u)).val := by
  pointwise [argMin, atMin, rowNo]
  rw [colMin_at]
  obtain ⟨hle, hlt⟩ := pick_spec fun p => d (ix2 p u)
  generalize (pick fun p => d (ix2 p u)) = m at hle hlt ⊢
  obtain ⟨h1, h2⟩ := fold_minsi 2147483647#32
    (fun x : Fin 225 => if d (ix2 x u) = d (ix2 m u) then BitVec.ofNat 32 x.val else 225#32) Finset.univ
  have hm := h1 m (Finset.mem_univ m)
  rw [if_pos rfl, toInt_small _ (by omega)] at hm
  rcases h2 with h2 | ⟨x, -, h2⟩
  · rw [h2] at hm
    have : (2147483647#32 : BitVec 32).toInt = 2147483647 := by decide
    omega
  · refine h2.trans ?_
    rw [h2] at hm
    by_cases hx : d (ix2 x u) = d (ix2 m u)
    · rw [if_pos hx] at hm ⊢
      rw [toInt_small _ (by omega)] at hm
      have : ¬ x < m := fun h => absurd (hlt x h) (by show ¬ d (ix2 m u) < d (ix2 x u); rw [hx]; exact lt_irrefl _)
      have hxm : x = m := le_antisymm (by rw [Fin.le_def]; omega) (not_lt.mp this)
      rw [hxm]
    · rw [if_neg hx] at hm
      have : (225#32 : BitVec 32).toInt = 225 := by decide
      omega

theorem mark_at (a : IVec S25 32) (p : Fin 225) (u : Fin 25) (q : Fin 225) (ha : a (ix1 u) = BitVec.ofNat 32 q.val) :
    mark a (ix2 p u) = if p = q then 1#1 else 0#1 := by
  pointwise [mark, rowNo, ha]
  simp only [IntOp.cmpi]
  by_cases h : p = q
  · simp [h]
  · rw [if_neg h]
    have : ¬ BitVec.ofNat 32 p.val = BitVec.ofNat 32 q.val := by
      rw [WordCmp.ofNat_eq_ofNat_iff (by omega) (by omega)]
      exact fun e => h (Fin.ext e)
    show BitVec.ofBool (BitVec.ofNat 32 p.val == BitVec.ofNat 32 q.val) = 0#1
    rw [beq_eq_false_iff_ne.mpr this]; rfl

theorem overwrite_at (h : IVec S225x25 1) (d : FVec Ideal S225x25 .f32) (p : Fin 225) (u : Fin 25) :
    overwrite h d (ix2 p u) = if h (ix2 p u) = 1#1 then ⊤ else d (ix2 p u) := by
  pointwise [overwrite]
  rw [IdealRules.named_const.ideal_named_scalar _ _ _ _ rfl]
  rfl

/-- One round's mark, from the table it looks at. -/
def hit (d : FVec Ideal S225x25 .f32) : IVec S225x25 1 := mark (argMin d)

/-- The table after `k` rounds. -/
def table (d : FVec Ideal S225x25 .f32) : Nat → FVec Ideal S225x25 .f32
  | 0 => d
  | k + 1 => overwrite (hit (table d k)) (table d k)

theorem hit_at (d : FVec Ideal S225x25 .f32) (p : Fin 225) (u : Fin 25) :
    hit d (ix2 p u) = if p = pick (fun q => d (ix2 q u)) then 1#1 else 0#1 :=
  mark_at _ p u _ (argMin_at d u)

/-- A column after `k` rounds is the column of the start with `k` picks gone. -/
theorem table_at (d : FVec Ideal S225x25 .f32) (k : Nat) (u : Fin 25) :
    (fun p => table d k (ix2 p u)) = left (fun p => d (ix2 p u)) k := by
  induction k with
  | zero => rfl
  | succ k ih =>
    funext p
    show overwrite (hit (table d k)) (table d k) (ix2 p u) = _
    rw [overwrite_at, hit_at, ih, left_succ]
    change _ = Function.update (left (fun p => d (ix2 p u)) k) (pick (left (fun p => d (ix2 p u)) k)) ⊤ p
    by_cases h : p = pick (left (fun p => d (ix2 p u)) k)
    · rw [if_pos h, if_pos rfl, ← h, Function.update_self]
    · rw [if_neg h, if_neg (by decide), Function.update_of_ne h]
      exact congrFun ih p

/-- The mark of round `k` is at pick number `k` of the column. -/
theorem hit_table_at (d : FVec Ideal S225x25 .f32) (k : Nat) (p : Fin 225) (u : Fin 25) :
    hit (table d k) (ix2 p u) = if p = sel (fun q => d (ix2 q u)) k then 1#1 else 0#1 := by
  rw [hit_at, table_at]; rfl

end Cert.KernelIdeal.Rounds

end
-- ==== Proof.Block0.lean ====
/- What one grid point of the matching kernel leaves in its output block.

   The block holds, for every view and every position of a `4 × 4` patch, the 1×1 convolution of the six candidate
   patches picked for that view, after the leaky rectifier. -/
module

public import proofs.«01_k».proof.Proof.Rounds
public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Block0

open Idealize.ShloMosaic Idealize.SL.Sem
open Cert.KernelIdeal Cert.KernelIdeal.Gen Cert.Pick Cert.KernelIdeal.Rounds
open Cert.Spec (lrelu)

/-! ## The picked candidates as a product with a 0/1 table -/

def onehot (h : IVec S225x25 1) : FVec Ideal S225x25 .f32 := sitofp .f32 (extui 32 h natLt_1_32)

def zeros : FVec Ideal S225x7 .f32 := broadcast S225x7 (Scalar.ofBits .f32 0x00000000#32)

/-- The six tables of marks side by side, each padded to 32 columns. -/
def marks (d : FVec Ideal S225x25 .f32) : FVec Ideal S225x192 .f32 :=
  concatenate S225x192 1 [
    ⟨S225x25, onehot (hit (table d 0))⟩, ⟨S225x7, zeros⟩,
    ⟨S225x25, onehot (hit (table d 1))⟩, ⟨S225x7, zeros⟩,
    ⟨S225x25, onehot (hit (table d 2))⟩, ⟨S225x7, zeros⟩,
    ⟨S225x25, onehot (hit (table d 3))⟩, ⟨S225x7, zeros⟩,
    ⟨S225x25, onehot (hit (table d 4))⟩, ⟨S225x7, zeros⟩,
    ⟨S225x25, onehot (hit (table d 5))⟩, ⟨S225x7, zeros⟩]
    concatenates_S225x25_S225x7_S225x25_S225x7_S225x25_S225x7_S225x25_S225x7_S225x25_S225x7_S225x25_S225x7_S225x192_d1

/-- The picked candidates: column `32 k + u` is the candidate of pick `k` for view `u`. -/
def picked (C : FVec Ideal S225x1024 .f32) (d : FVec Ideal S225x25 .f32) : FVec Ideal S1024x192 .f32 :=
  matmul dot_S225x1024_S225x192_S1024x192_0_0_1_1_n_n none C (marks d) (constant S1024x192 .f32 0x00000000#32)

theorem onehot_at (h : IVec S225x25 1) (p : Fin 225) (u : Fin 25) (q : Fin 225)
    (hh : h (ix2 p u) = if p = q then 1#1 else 0#1) : onehot h (ix2 p u) = if p = q then (1 : EReal) else 0 := by
  pointwise [onehot]
  rw [hh]
  by_cases e : p = q
  · rw [if_pos e, if_pos e]
    show (((1#32 : BitVec 32).toInt : ℝ) : EReal) = 1
    simp
  · rw [if_neg e, if_neg e]
    show (((0#32 : BitVec 32).toInt : ℝ) : EReal) = 0
    simp

theorem marks_at (d : FVec Ideal S225x25 .f32) (p : Fin 225) (k : Fin 6) (u : Fin 25) :
    marks d (ix2 p ⟨32 * k.val + u.val, by omega⟩) = if p = sel (fun q => d (ix2 q u)) k.val then (1 : EReal) else 0 := by
  have hk : ∀ j, onehot (hit (table d j)) (ix2 p u) = if p = sel (fun q => d (ix2 q u)) j then (1 : EReal) else 0 :=
    fun j => onehot_at _ p u _ (hit_table_at d j p u)
  rw [← hk k.val]
  unfold marks
  refine concatenate_apply_piece (t := S225x192) 1 _ _ (ix2 p ⟨32 * k.val + u.val, by omega⟩ : S225x192.Idx) (2 * k.val) ?_ S225x25 (onehot (hit (table d k.val))) ?_ rfl
    (32 * k.val) ?_ (ix2 p u) ?_ ?_
  · show 2 * k.val < 12
    omega
  · fin_cases k <;> rfl
  · fin_cases k <;> rfl
  · intro b hb
    match b with
    | ⟨0, _⟩ => rfl
    | ⟨1, _⟩ => exact absurd rfl hb
  · rfl

/-- Column `32 k + u` of the product is the row of `C` that pick `k` of view `u` names. -/
theorem picked_at (C : FVec Ideal S225x1024 .f32) (d : FVec Ideal S225x25 .f32) (e : Fin 1024) (k : Fin 6) (u : Fin 25) :
    picked C d (ix2 e ⟨32 * k.val + u.val, by omega⟩) = C (ix2 (sel (fun q => d (ix2 q u)) k.val) e) := by
  have h := marks_at d
  unfold picked
  generalize marks d = O at h ⊢
  pointwise
  simp only [h]
  simp

/-! ## The sixteen positions side by side -/

theorem slices_strip (t : Fin 16) (o : Nat) (ho : o + 32 ≤ 192) : S1024x192.Slices ![64 * t.val, o] S64x32 :=
  ⟨rfl, fun a => by
    have := t.isLt
    match a with
    | ⟨0, _⟩ => show 64 * t.val + 64 ≤ 1024; omega
    | ⟨1, _⟩ => show o + 32 ≤ 192; omega⟩

/-- Sixteen slices of 64 rows, at the column `o`, side by side. -/
def strip (S : FVec Ideal S1024x192 .f32) (o : Nat) (ho : o + 32 ≤ 192) : FVec Ideal S64x512 .f32 :=
  concatenate S64x512 1 (List.ofFn fun t : Fin 16 =>
      (⟨S64x32, extractStridedSlice S64x32 ![64 * t.val, o] S (slices_strip t o ho)⟩ : (s : Shape) × (s.Idx → EReal)))
    concatenates_S64x32_S64x32_S64x32_S64x32_S64x32_S64x32_S64x32_S64x32_S64x32_S64x32_S64x32_S64x32_S64x32_S64x32_S64x32_S64x32_S64x512_d1

theorem strip_at (S : FVec Ideal S1024x192 .f32) (o : Nat) (ho : o + 32 ≤ 192) (c : Fin 64) (t : Fin 16) (u : Fin 32) :
    strip S o ho (ix2 c ⟨32 * t.val + u.val, by omega⟩) = S (ix2 ⟨64 * t.val + c.val, by omega⟩ ⟨o + u.val, by omega⟩) := by
  refine (concatenate_ofFn_apply (t := S64x512) (s₁ := S64x32) 1
    (fun t : Fin 16 => extractStridedSlice S64x32 ![64 * t.val, o] S (slices_strip t o ho)) _ rfl 32 rfl (ix2 c ⟨32 * t.val + u.val, by omega⟩ : S64x512.Idx) t (by show (32 * t.val + u.val) / 32 = t.val; omega) (ix2 c u)
    (by show u.val = (32 * t.val + u.val) % 32; omega)
    (by intro b hb
        match b with
        | ⟨0, _⟩ => rfl
        | ⟨1, _⟩ => exact absurd rfl hb)).trans ?_
  pointwise

/-- The six strips one under the other: row `64 k + c`, column `32 t + u` is channel `c`, position `t` of pick `k`. -/
def stacked (S : FVec Ideal S1024x192 .f32) : FVec Ideal S384x512 .f32 :=
  concatenate S384x512 0 (List.ofFn fun k : Fin 6 => (⟨S64x512, strip S (32 * k.val) (by omega)⟩ : (s : Shape) × (s.Idx → EReal)))
    concatenates_S64x512_S64x512_S64x512_S64x512_S64x512_S64x512_S384x512_d0

theorem stacked_at (S : FVec Ideal S1024x192 .f32) (r : Fin 384) (t : Fin 16) (u : Fin 32) :
    stacked S (ix2 r ⟨32 * t.val + u.val, by omega⟩)
      = S (ix2 ⟨64 * t.val + r.val % 64, by omega⟩ ⟨32 * (r.val / 64) + u.val, by omega⟩) := by
  refine (concatenate_ofFn_apply (t := S384x512) (s₁ := S64x512) 0
    (fun k : Fin 6 => strip S (32 * k.val) (by omega)) _ rfl 64 rfl (ix2 r ⟨32 * t.val + u.val, by omega⟩ : S384x512.Idx) ⟨r.val / 64, by omega⟩ rfl
    (ix2 ⟨r.val % 64, by omega⟩ ⟨32 * t.val + u.val, by omega⟩) rfl
    (by intro b hb
        match b with
        | ⟨0, _⟩ => exact absurd rfl hb
        | ⟨1, _⟩ => rfl)).trans ?_
  exact strip_at S _ _ ⟨r.val % 64, by omega⟩ t u

/-! ## The convolution and the rectifier -/

/-- The weights times the stacked picks, rectified. -/
def conv1 (W : FVec Ideal S64x384 .f32) (M : FVec Ideal S384x512 .f32) : FVec Ideal S1x64x512 .f32 :=
  k0_pay1 (matmul dot_S64x384_S384x512_S64x512_1_0_0_1_n_n none (shapeCast S64x384 W shapeCasts_S64x384_S64x384) M
    (constant S64x512 .f32 0x00000000#32)) (Scalar.ofBits .f32 0x00000000#32)

theorem conv1_at (W : FVec Ideal S64x384 .f32) (M : FVec Ideal S384x512 .f32) (z : Fin 1) (o : Fin 64) (j : Fin 512) :
    conv1 W M (ix3 z o j) = lrelu (∑ r : Fin 384, W (ix2 o r) * M (ix2 r j)) := by
  pointwise [conv1, k0_pay1]
  rfl

/-! ## The whole block -/

/-- The candidates of one grid point: nine blocks of 25 views. -/
def cands (x1 x2 x3 x4 x5 x6 x7 x8 x9 : FVec Ideal S1x25x1024 .f32) : FVec Ideal S225x1024 .f32 :=
  k0_pay3 x1 x2 x3 x4 x5 x6 x7 x8 x9

/-- The distance table of one grid point. -/
def dist (x0 : FVec Ideal S1x1024x25 .f32) (C : FVec Ideal S225x1024 .f32) : FVec Ideal S225x25 .f32 :=
  k0_pay7 (matmul dot_S225x1024_S1024x25_S225x25_1_0_0_1_n_n none C (k0_pay2 x0) (constant S225x25 .f32 0x00000000#32))
    (k0_pay5 x0) (mulf C C)

theorem dist_at (x0 : FVec Ideal S1x1024x25 .f32) (C : FVec Ideal S225x1024 .f32) (p : Fin 225) (u : Fin 25) :
    dist x0 C (ix2 p u) = (Ideal.ofBits .f32 0xC0000000#32 * (∑ e : Fin 1024, C (ix2 p e) * x0 (ix3 0 e u))
      + ∑ e : Fin 1024, x0 (ix3 0 e u) * x0 (ix3 0 e u)) + ∑ e : Fin 1024, C (ix2 p e) * C (ix2 p e) := by
  pointwise [dist, k0_pay7, k0_pay5, k0_pay2]

theorem cands_at (x1 x2 x3 x4 x5 x6 x7 x8 x9 : FVec Ideal S1x25x1024 .f32) (n : Fin 9) (v : Fin 25) (e : Fin 1024) :
    cands x1 x2 x3 x4 x5 x6 x7 x8 x9 (ix2 ⟨25 * n.val + v.val, by omega⟩ e)
      = (![x1, x2, x3, x4, x5, x6, x7, x8, x9] : Fin 9 → FVec Ideal S1x25x1024 .f32) n (ix3 0 v e) := by
  refine (concatenate_ofFn_apply (t := S225x1024) (s₁ := S25x1024) 0
    (fun n : Fin 9 => shapeCast S25x1024 ((![x1, x2, x3, x4, x5, x6, x7, x8, x9] : Fin 9 → FVec Ideal S1x25x1024 .f32) n)
      shapeCasts_S1x25x1024_S25x1024) concatenates_S25x1024_S25x1024_S25x1024_S25x1024_S25x1024_S25x1024_S25x1024_S25x1024_S25x1024_S225x1024_d0
    rfl 25 rfl _ n (by show (25 * n.val + v.val) / 25 = n.val; omega) (ix2 v e)
    (by show v.val = (25 * n.val + v.val) % 25; omega)
    (by intro b hb
        match b with
        | ⟨0, _⟩ => exact absurd rfl hb
        | ⟨1, _⟩ => rfl)).trans ?_
  pointwise

/-- What one grid point stores. -/
def stored (x0 : FVec Ideal S1x1024x25 .f32) (C : FVec Ideal S225x1024 .f32) (W : FVec Ideal S64x384 .f32) :
    FVec Ideal S1x64x512 .f32 := conv1 W (stacked (picked C (dist x0 C)))

theorem stored_at (x0 : FVec Ideal S1x1024x25 .f32) (C : FVec Ideal S225x1024 .f32) (W : FVec Ideal S64x384 .f32)
    (z : Fin 1) (o : Fin 64) (t : Fin 16) (u : Fin 25) :
    stored x0 C W (ix3 z o ⟨32 * t.val + u.val, by omega⟩) = lrelu (∑ r : Fin 384, W (ix2 o r)
      * C (ix2 (sel (fun p => dist x0 C (ix2 p u)) (r.val / 64)) ⟨64 * t.val + r.val % 64, by omega⟩)) := by
  unfold stored
  rw [conv1_at]
  congr 1
  refine Finset.sum_congr rfl fun r _ => ?_
  rw [stacked_at _ r t ⟨u.val, by omega⟩]
  rw [picked_at C _ _ ⟨r.val / 64, by omega⟩ u]

theorem pay49_eq (x0 : Vec Ideal S1x1024x25 .f32) (x1 x2 x3 x4 x5 x6 x7 x8 x9 : Vec Ideal S1x25x1024 .f32) (x10 : Vec Ideal S64x384 .f32) :
    k0_pay49 x0 x1 x2 x3 x4 x5 x6 x7 x8 x9 x10 = (cands x1 x2 x3 x4 x5 x6 x7 x8 x9) := by
  unfold k0_pay49
  frame_out
  rfl

theorem pay50_eq (x0 : Vec Ideal S1x1024x25 .f32) (x1 x2 x3 x4 x5 x6 x7 x8 x9 : Vec Ideal S1x25x1024 .f32) (x10 : Vec Ideal S64x384 .f32) :
    k0_pay50 x0 x1 x2 x3 x4 x5 x6 x7 x8 x9 x10 = matmul dot_S225x1024_S1024x25_S225x25_1_0_0_1_n_n none (cands x1 x2 x3 x4 x5 x6 x7 x8 x9) (k0_pay2 x0)
      (constant S225x25 .f32 0x00000000#32) := by
  unfold k0_pay50
  frame_out
  rfl

theorem pay51_eq (x0 : Vec Ideal S1x1024x25 .f32) (x1 x2 x3 x4 x5 x6 x7 x8 x9 : Vec Ideal S1x25x1024 .f32) (x10 : Vec Ideal S64x384 .f32) :
    k0_pay51 x0 x1 x2 x3 x4 x5 x6 x7 x8 x9 x10 = k0_pay5 x0 := by
  unfold k0_pay51
  frame_out

theorem pay52_eq (x0 : Vec Ideal S1x1024x25 .f32) (x1 x2 x3 x4 x5 x6 x7 x8 x9 : Vec Ideal S1x25x1024 .f32) (x10 : Vec Ideal S64x384 .f32) :
    k0_pay52 x0 x1 x2 x3 x4 x5 x6 x7 x8 x9 x10 = mulf (cands x1 x2 x3 x4 x5 x6 x7 x8 x9) (cands x1 x2 x3 x4 x5 x6 x7 x8 x9) := by
  unfold k0_pay52
  frame_out
  rfl

theorem pay54_eq (x0 : Vec Ideal S1x1024x25 .f32) (x1 x2 x3 x4 x5 x6 x7 x8 x9 : Vec Ideal S1x25x1024 .f32) (x10 : Vec Ideal S64x384 .f32) :
    k0_pay54 x0 x1 x2 x3 x4 x5 x6 x7 x8 x9 x10 = onehot (hit (table (dist x0 (cands x1 x2 x3 x4 x5 x6 x7 x8 x9)) 0)) := by
  unfold k0_pay54
  rw [pay50_eq, pay51_eq, pay52_eq]
  rfl

theorem pay56_eq (x0 : Vec Ideal S1x1024x25 .f32) (x1 x2 x3 x4 x5 x6 x7 x8 x9 : Vec Ideal S1x25x1024 .f32) (x10 : Vec Ideal S64x384 .f32) :
    k0_pay56 x0 x1 x2 x3 x4 x5 x6 x7 x8 x9 x10 = onehot (hit (table (dist x0 (cands x1 x2 x3 x4 x5 x6 x7 x8 x9)) 1)) := by
  unfold k0_pay56
  rw [pay50_eq, pay51_eq, pay52_eq]
  rfl

theorem pay58_eq (x0 : Vec Ideal S1x1024x25 .f32) (x1 x2 x3 x4 x5 x6 x7 x8 x9 : Vec Ideal S1x25x1024 .f32) (x10 : Vec Ideal S64x384 .f32) :
    k0_pay58 x0 x1 x2 x3 x4 x5 x6 x7 x8 x9 x10 = table (dist x0 (cands x1 x2 x3 x4 x5 x6 x7 x8 x9)) 2 := by
  unfold k0_pay58
  rw [pay50_eq, pay51_eq, pay52_eq]
  rfl

theorem pay59_eq (x0 : Vec Ideal S1x1024x25 .f32) (x1 x2 x3 x4 x5 x6 x7 x8 x9 : Vec Ideal S1x25x1024 .f32) (x10 : Vec Ideal S64x384 .f32) :
    k0_pay59 x0 x1 x2 x3 x4 x5 x6 x7 x8 x9 x10 = argMin (table (dist x0 (cands x1 x2 x3 x4 x5 x6 x7 x8 x9)) 2) := by
  unfold k0_pay59
  rw [pay50_eq, pay51_eq, pay52_eq]
  rfl

theorem pay60_eq (x0 : Vec Ideal S1x1024x25 .f32) (x1 x2 x3 x4 x5 x6 x7 x8 x9 : Vec Ideal S1x25x1024 .f32) (x10 : Vec Ideal S64x384 .f32) :
    k0_pay60 x0 x1 x2 x3 x4 x5 x6 x7 x8 x9 x10 = onehot (hit (table (dist x0 (cands x1 x2 x3 x4 x5 x6 x7 x8 x9)) 2)) := by
  unfold k0_pay60 k0_pay53
  rw [pay59_eq]
  rfl

theorem pay62_eq (x0 : Vec Ideal S1x1024x25 .f32) (x1 x2 x3 x4 x5 x6 x7 x8 x9 : Vec Ideal S1x25x1024 .f32) (x10 : Vec Ideal S64x384 .f32) :
    k0_pay62 x0 x1 x2 x3 x4 x5 x6 x7 x8 x9 x10 = onehot (hit (table (dist x0 (cands x1 x2 x3 x4 x5 x6 x7 x8 x9)) 3)) := by
  unfold k0_pay62 k0_pay53
  rw [pay58_eq, pay59_eq]
  rfl

theorem pay64_eq (x0 : Vec Ideal S1x1024x25 .f32) (x1 x2 x3 x4 x5 x6 x7 x8 x9 : Vec Ideal S1x25x1024 .f32) (x10 : Vec Ideal S64x384 .f32) :
    k0_pay64 x0 x1 x2 x3 x4 x5 x6 x7 x8 x9 x10 = onehot (hit (table (dist x0 (cands x1 x2 x3 x4 x5 x6 x7 x8 x9)) 4)) := by
  unfold k0_pay64 k0_pay53
  rw [pay58_eq, pay59_eq]
  rfl

theorem pay66_eq (x0 : Vec Ideal S1x1024x25 .f32) (x1 x2 x3 x4 x5 x6 x7 x8 x9 : Vec Ideal S1x25x1024 .f32) (x10 : Vec Ideal S64x384 .f32) :
    k0_pay66 x0 x1 x2 x3 x4 x5 x6 x7 x8 x9 x10 = argMin (table (dist x0 (cands x1 x2 x3 x4 x5 x6 x7 x8 x9)) 5) := by
  unfold k0_pay66 k0_pay53
  rw [pay58_eq, pay59_eq]
  rfl

theorem pay29_eq (C : FVec Ideal S225x1024 .f32) (d : FVec Ideal S225x25 .f32) :
    k0_pay29 C rowNo (onehot (hit (table d 0))) zeros (onehot (hit (table d 1))) zeros (onehot (hit (table d 2))) zeros
      (onehot (hit (table d 3))) zeros (onehot (hit (table d 4))) zeros (argMin (table d 5)) = picked C d := rfl

theorem pay48_eq (C : FVec Ideal S225x1024 .f32) (d : FVec Ideal S225x25 .f32) (W : FVec Ideal S64x384 .f32) :
    k0_pay1 (k0_pay48 (k0_pay29 C rowNo (onehot (hit (table d 0))) zeros (onehot (hit (table d 1))) zeros (onehot (hit (table d 2))) zeros
      (onehot (hit (table d 3))) zeros (onehot (hit (table d 4))) zeros (argMin (table d 5)))
      (k0_pay30 C rowNo (onehot (hit (table d 0))) zeros (onehot (hit (table d 1))) zeros (onehot (hit (table d 2))) zeros
      (onehot (hit (table d 3))) zeros (onehot (hit (table d 4))) zeros (argMin (table d 5)))
      (k0_pay31 C rowNo (onehot (hit (table d 0))) zeros (onehot (hit (table d 1))) zeros (onehot (hit (table d 2))) zeros
      (onehot (hit (table d 3))) zeros (onehot (hit (table d 4))) zeros (argMin (table d 5)))
      (k0_pay32 C rowNo (onehot (hit (table d 0))) zeros (onehot (hit (table d 1))) zeros (onehot (hit (table d 2))) zeros
      (onehot (hit (table d 3))) zeros (onehot (hit (table d 4))) zeros (argMin (table d 5)))
      (k0_pay33 C rowNo (onehot (hit (table d 0))) zeros (onehot (hit (table d 1))) zeros (onehot (hit (table d 2))) zeros
      (onehot (hit (table d 3))) zeros (onehot (hit (table d 4))) zeros (argMin (table d 5)))
      (k0_pay34 C rowNo (onehot (hit (table d 0))) zeros (onehot (hit (table d 1))) zeros (onehot (hit (table d 2))) zeros
      (onehot (hit (table d 3))) zeros (onehot (hit (table d 4))) zeros (argMin (table d 5)))
      (k0_pay35 C rowNo (onehot (hit (table d 0))) zeros (onehot (hit (table d 1))) zeros (onehot (hit (table d 2))) zeros
      (onehot (hit (table d 3))) zeros (onehot (hit (table d 4))) zeros (argMin (table d 5)))
      (k0_pay36 C rowNo (onehot (hit (table d 0))) zeros (onehot (hit (table d 1))) zeros (onehot (hit (table d 2))) zeros
      (onehot (hit (table d 3))) zeros (onehot (hit (table d 4))) zeros (argMin (table d 5)))
      (k0_pay37 C rowNo (onehot (hit (table d 0))) zeros (onehot (hit (table d 1))) zeros (onehot (hit (table d 2))) zeros
      (onehot (hit (table d 3))) zeros (onehot (hit (table d 4))) zeros (argMin (table d 5)))
      (k0_pay38 C rowNo (onehot (hit (table d 0))) zeros (onehot (hit (table d 1))) zeros (onehot (hit (table d 2))) zeros
      (onehot (hit (table d 3))) zeros (onehot (hit (table d 4))) zeros (argMin (table d 5)))
      (k0_pay39 C rowNo (onehot (hit (table d 0))) zeros (onehot (hit (table d 1))) zeros (onehot (hit (table d 2))) zeros
      (onehot (hit (table d 3))) zeros (onehot (hit (table d 4))) zeros (argMin (table d 5)))
      (k0_pay40 C rowNo (onehot (hit (table d 0))) zeros (onehot (hit (table d 1))) zeros (onehot (hit (table d 2))) zeros
      (onehot (hit (table d 3))) zeros (onehot (hit (table d 4))) zeros (argMin (table d 5)))
      (k0_pay41 C rowNo (onehot (hit (table d 0))) zeros (onehot (hit (table d 1))) zeros (onehot (hit (table d 2))) zeros
      (onehot (hit (table d 3))) zeros (onehot (hit (table d 4))) zeros (argMin (table d 5)))
      (k0_pay42 C rowNo (onehot (hit (table d 0))) zeros (onehot (hit (table d 1))) zeros (onehot (hit (table d 2))) zeros
      (onehot (hit (table d 3))) zeros (onehot (hit (table d 4))) zeros (argMin (table d 5)))
      (k0_pay43 C rowNo (onehot (hit (table d 0))) zeros (onehot (hit (table d 1))) zeros (onehot (hit (table d 2))) zeros
      (onehot (hit (table d 3))) zeros (onehot (hit (table d 4))) zeros (argMin (table d 5)))
      (k0_pay44 C rowNo (onehot (hit (table d 0))) zeros (onehot (hit (table d 1))) zeros (onehot (hit (table d 2))) zeros
      (onehot (hit (table d 3))) zeros (onehot (hit (table d 4))) zeros (argMin (table d 5)))
      (k0_pay45 C rowNo (onehot (hit (table d 0))) zeros (onehot (hit (table d 1))) zeros (onehot (hit (table d 2))) zeros
      (onehot (hit (table d 3))) zeros (onehot (hit (table d 4))) zeros (argMin (table d 5)))
      (k0_pay46 C rowNo (onehot (hit (table d 0))) zeros (onehot (hit (table d 1))) zeros (onehot (hit (table d 2))) zeros
      (onehot (hit (table d 3))) zeros (onehot (hit (table d 4))) zeros (argMin (table d 5)))
      (k0_pay47 C rowNo (onehot (hit (table d 0))) zeros (onehot (hit (table d 1))) zeros (onehot (hit (table d 2))) zeros
      (onehot (hit (table d 3))) zeros (onehot (hit (table d 4))) zeros (argMin (table d 5)))
      W) (Scalar.ofBits .f32 0x00000000#32) = conv1 W (stacked (picked C d)) := rfl

theorem out_eq (x0 : Vec Ideal S1x1024x25 .f32) (x1 x2 x3 x4 x5 x6 x7 x8 x9 : Vec Ideal S1x25x1024 .f32)
    (x10 : Vec Ideal S64x384 .f32) :
    out0_11 x0 x1 x2 x3 x4 x5 x6 x7 x8 x9 x10 = stored x0 (cands x1 x2 x3 x4 x5 x6 x7 x8 x9) x10 := by
  frame_out
  rw [pay49_eq, pay54_eq, pay56_eq, pay60_eq, pay62_eq, pay64_eq, pay66_eq]
  exact pay48_eq (cands x1 x2 x3 x4 x5 x6 x7 x8 x9) (dist x0 (cands x1 x2 x3 x4 x5 x6 x7 x8 x9)) x10

end Cert.KernelIdeal.Block0

end
-- ==== Proof.Arrays.lean ====
/- What the matching launch's result array holds: at patch `b`, output channel `o`, place `t` and view `u`, the six
   candidates nearest to that patch of that view, mixed by the 1×1 convolution. -/
module

public import proofs.«01_k».proof.Proof.Cands
public import proofs.«01_k».proof.Proof.Block0

@[expose] public section

set_option maxRecDepth 16384

noncomputable section

namespace Cert.KernelIdeal.Arrays

open Idealize.ShloMosaic Idealize.SL.Sem Idealize.ShloMosaic.Pipeline
open Cert.KernelIdeal Cert.KernelIdeal.Gen Cert.Spec Cert.KernelIdeal.Host Cert.Pick Cert.KernelIdeal.Maps Cert.KernelIdeal.Cands

variable (m : (ℓ : Loc nD τ sig) → Buf (Elt Ideal) ℓ) (ρ : Dev nD → PrngReg) (c : Dev nD)

variable (V : (c : Dev nD) → (b : Ref sig .tc) → Buf (Elt Ideal) (c.tc.loc b))

theorem t_lt (t : Fin cfg0.N) : t.val < 256 := t.isLt

theorem block0_of (h : V c main_v2 = patchQ (arg0 m c)) (t : Fin cfg0.N) :
    iblk0 V c 0 t = qblk (arg0 m c) t.val := by
  funext j
  idx_vars j
  blk_simp [iblk0]
  rw [h, show (win0_0.blk t).view.emb (ix3 j0 j1 j2) = ix3 ⟨t.val, t_lt t⟩ j1 j2 by blk_ext [index0]]
  exact qblk_at (arg0 m c) ⟨t.val, t_lt t⟩ j0 j1 j2

theorem block0 (t : Fin cfg0.N) : iblk0 (V7 m ρ) c 0 t = qblk (arg0 m c) t.val :=
  block0_of m c (V7 m ρ) (at_v2 m ρ c) t

theorem block1_of (h : V c main_v5 = patchC (arg0 m c)) (t : Fin cfg0.N) :
    iblk0 V c 1 t = cblk (arg0 m c) t.val 0 := by
  funext j
  idx_vars j
  blk_simp [iblk0]
  rw [h, show (win0_1.blk t).view.emb (ix3 j0 j1 j2) = ix3 ⟨moved 0 0 t.val, moved_lt ..⟩ j1 j2 by blk_ext [index1]]
  exact cand_at (arg0 m c) (arg0 m c) 0 0 0 0 (by decide) (by decide) (by decide) (by decide)
    (fun _ _ _ _ => rfl) 0 (by decide) (by decide) ⟨t.val, t_lt t⟩ j1 j2

theorem block1 (t : Fin cfg0.N) : iblk0 (V7 m ρ) c 1 t = cblk (arg0 m c) t.val 0 :=
  block1_of m c (V7 m ρ) (at_v5 m ρ c) t

theorem block2_of (h : V c main_v13 = patchC (rollW (arg0 m c))) (t : Fin cfg0.N) :
    iblk0 V c 2 t = cblk (arg0 m c) t.val 1 := by
  funext j
  idx_vars j
  blk_simp [iblk0]
  rw [h, show (win0_2.blk t).view.emb (ix3 j0 j1 j2) = ix3 ⟨moved 0 0 t.val, moved_lt ..⟩ j1 j2 by blk_ext [index2]]
  exact cand_at (arg0 m c) (rollW (arg0 m c)) 0 0 0 1 (by decide) (by decide) (by decide) (by decide)
    (fun v c' h w => rollW_px _ v c' h w) 1 (by decide) (by decide) ⟨t.val, t_lt t⟩ j1 j2

theorem block2 (t : Fin cfg0.N) : iblk0 (V7 m ρ) c 2 t = cblk (arg0 m c) t.val 1 :=
  block2_of m c (V7 m ρ) (at_v13 m ρ c) t

theorem block3_of (h : V c main_v5 = patchC (arg0 m c)) (t : Fin cfg0.N) :
    iblk0 V c 3 t = cblk (arg0 m c) t.val 2 := by
  funext j
  idx_vars j
  blk_simp [iblk0]
  rw [h, show (win0_3.blk t).view.emb (ix3 j0 j1 j2) = ix3 ⟨moved 0 1 t.val, moved_lt ..⟩ j1 j2 by blk_ext [index3]]
  exact cand_at (arg0 m c) (arg0 m c) 0 1 0 0 (by decide) (by decide) (by decide) (by decide)
    (fun _ _ _ _ => rfl) 2 (by decide) (by decide) ⟨t.val, t_lt t⟩ j1 j2

theorem block3 (t : Fin cfg0.N) : iblk0 (V7 m ρ) c 3 t = cblk (arg0 m c) t.val 2 :=
  block3_of m c (V7 m ρ) (at_v5 m ρ c) t

theorem block4_of (h : V c main_v9 = patchC (rollH (arg0 m c))) (t : Fin cfg0.N) :
    iblk0 V c 4 t = cblk (arg0 m c) t.val 3 := by
  funext j
  idx_vars j
  blk_simp [iblk0]
  rw [h, show (win0_4.blk t).view.emb (ix3 j0 j1 j2) = ix3 ⟨moved 0 0 t.val, moved_lt ..⟩ j1 j2 by blk_ext [index4]]
  exact cand_at (arg0 m c) (rollH (arg0 m c)) 0 0 1 0 (by decide) (by decide) (by decide) (by decide)
    (fun v c' h w => rollH_px _ v c' h w) 3 (by decide) (by decide) ⟨t.val, t_lt t⟩ j1 j2

theorem block4 (t : Fin cfg0.N) : iblk0 (V7 m ρ) c 4 t = cblk (arg0 m c) t.val 3 :=
  block4_of m c (V7 m ρ) (at_v9 m ρ c) t

theorem block5_of (h : V c main_v17 = patchC (rollW (rollH (arg0 m c)))) (t : Fin cfg0.N) :
    iblk0 V c 5 t = cblk (arg0 m c) t.val 4 := by
  funext j
  idx_vars j
  blk_simp [iblk0]
  rw [h, show (win0_5.blk t).view.emb (ix3 j0 j1 j2) = ix3 ⟨moved 0 0 t.val, moved_lt ..⟩ j1 j2 by blk_ext [index5]]
  exact cand_at (arg0 m c) (rollW (rollH (arg0 m c))) 0 0 1 1 (by decide) (by decide) (by decide) (by decide)
    (fun v c' h w => (rollW_px _ v c' h w).trans (rollH_px _ v c' h _)) 4 (by decide) (by decide) ⟨t.val, t_lt t⟩ j1 j2

theorem block5 (t : Fin cfg0.N) : iblk0 (V7 m ρ) c 5 t = cblk (arg0 m c) t.val 4 :=
  block5_of m c (V7 m ρ) (at_v17 m ρ c) t

theorem block6_of (h : V c main_v9 = patchC (rollH (arg0 m c))) (t : Fin cfg0.N) :
    iblk0 V c 6 t = cblk (arg0 m c) t.val 5 := by
  funext j
  idx_vars j
  blk_simp [iblk0]
  rw [h, show (win0_6.blk t).view.emb (ix3 j0 j1 j2) = ix3 ⟨moved 0 1 t.val, moved_lt ..⟩ j1 j2 by blk_ext [index6]]
  exact cand_at (arg0 m c) (rollH (arg0 m c)) 0 1 1 0 (by decide) (by decide) (by decide) (by decide)
    (fun v c' h w => rollH_px _ v c' h w) 5 (by decide) (by decide) ⟨t.val, t_lt t⟩ j1 j2

theorem block6 (t : Fin cfg0.N) : iblk0 (V7 m ρ) c 6 t = cblk (arg0 m c) t.val 5 :=
  block6_of m c (V7 m ρ) (at_v9 m ρ c) t

theorem block7_of (h : V c main_v5 = patchC (arg0 m c)) (t : Fin cfg0.N) :
    iblk0 V c 7 t = cblk (arg0 m c) t.val 6 := by
  funext j
  idx_vars j
  blk_simp [iblk0]
  rw [h, show (win0_7.blk t).view.emb (ix3 j0 j1 j2) = ix3 ⟨moved 1 0 t.val, moved_lt ..⟩ j1 j2 by blk_ext [index7]]
  exact cand_at (arg0 m c) (arg0 m c) 1 0 0 0 (by decide) (by decide) (by decide) (by decide)
    (fun _ _ _ _ => rfl) 6 (by decide) (by decide) ⟨t.val, t_lt t⟩ j1 j2

theorem block7 (t : Fin cfg0.N) : iblk0 (V7 m ρ) c 7 t = cblk (arg0 m c) t.val 6 :=
  block7_of m c (V7 m ρ) (at_v5 m ρ c) t

theorem block8_of (h : V c main_v13 = patchC (rollW (arg0 m c))) (t : Fin cfg0.N) :
    iblk0 V c 8 t = cblk (arg0 m c) t.val 7 := by
  funext j
  idx_vars j
  blk_simp [iblk0]
  rw [h, show (win0_8.blk t).view.emb (ix3 j0 j1 j2) = ix3 ⟨moved 1 0 t.val, moved_lt ..⟩ j1 j2 by blk_ext [index8]]
  exact cand_at (arg0 m c) (rollW (arg0 m c)) 1 0 0 1 (by decide) (by decide) (by decide) (by decide)
    (fun v c' h w => rollW_px _ v c' h w) 7 (by decide) (by decide) ⟨t.val, t_lt t⟩ j1 j2

theorem block8 (t : Fin cfg0.N) : iblk0 (V7 m ρ) c 8 t = cblk (arg0 m c) t.val 7 :=
  block8_of m c (V7 m ρ) (at_v13 m ρ c) t

theorem block9_of (h : V c main_v5 = patchC (arg0 m c)) (t : Fin cfg0.N) :
    iblk0 V c 9 t = cblk (arg0 m c) t.val 8 := by
  funext j
  idx_vars j
  blk_simp [iblk0]
  rw [h, show (win0_9.blk t).view.emb (ix3 j0 j1 j2) = ix3 ⟨moved 1 1 t.val, moved_lt ..⟩ j1 j2 by blk_ext [index9]]
  exact cand_at (arg0 m c) (arg0 m c) 1 1 0 0 (by decide) (by decide) (by decide) (by decide)
    (fun _ _ _ _ => rfl) 8 (by decide) (by decide) ⟨t.val, t_lt t⟩ j1 j2

theorem block9 (t : Fin cfg0.N) : iblk0 (V7 m ρ) c 9 t = cblk (arg0 m c) t.val 8 :=
  block9_of m c (V7 m ρ) (at_v5 m ρ c) t

theorem block10_of (h : V c main_v18 = mix (arg1 m c)) (t : Fin cfg0.N) :
    iblk0 V c 10 t = mix (arg1 m c) := by
  funext j
  idx_vars j
  blk_simp [iblk0]
  rw [h, show (win0_10.blk t).view.emb (ix2 j0 j1) = ix2 j0 j1 by blk_ext [index10]]

theorem block10 (t : Fin cfg0.N) : iblk0 (V7 m ρ) c 10 t = mix (arg1 m c) :=
  block10_of m c (V7 m ρ) (at_v18 m ρ c) t

/-- The matching launch's array: each patch's block in turn. -/
def matched (x : FVec Ideal S25x64x64x64 .f32) (w : FVec Ideal S64x384x1x1 .f32) : FVec Ideal S256x64x512 .f32 := fun i =>
  Block0.stored (qblk x (i 0).val) (Block0.cands (cblk x (i 0).val 0) (cblk x (i 0).val 1) (cblk x (i 0).val 2)
    (cblk x (i 0).val 3) (cblk x (i 0).val 4) (cblk x (i 0).val 5) (cblk x (i 0).val 6) (cblk x (i 0).val 7)
    (cblk x (i 0).val 8)) (mix w) (ix3 0 (i 1) (i 2))

theorem array0 : (dat0 (V7 m ρ) c).arrAt 11 cfg0.N = matched (arg0 m c) (arg1 m c) := by
  refine (dat0 (V7 m ρ) c).arrAt_eq_of_covers 11 _ (by decide +kernel) fun t hf y => ?_
  blk_simp
  rw [after0_11, Block0.out_eq, block0, block1, block2, block3, block4, block5, block6, block7, block8, block9, block10]
  idx_vars y
  rw [show (win0_11.blk t).view.emb (ix3 y0 y1 y2) = ix3 ⟨t.val, t_lt t⟩ y1 y2 by blk_ext [index11]]
  obtain rfl : y0 = 0 := Fin.ext (by have := y0.isLt; omega)
  rfl

theorem at_v19 : W8 m ρ c (Proc.devRef .tc main_v19) = matched (arg0 m c) (arg1 m c) :=
  (W8_arr m ρ c 11).trans (array0 m ρ c)

end Cert.KernelIdeal.Arrays
-- ==== Proof.Mixed.lean ====
/- The matching launch's array, entry by entry, is the picked candidates mixed by the 1×1 convolution. -/
module

public import proofs.«01_k».proof.Proof.Arrays

@[expose] public section

set_option maxRecDepth 16384

noncomputable section

namespace Cert.KernelIdeal.Mixed

open Idealize.ShloMosaic Idealize.SL.Sem
open Cert.KernelIdeal Cert.KernelIdeal.Gen Cert.Spec Cert.KernelIdeal.Host Cert.Pick Cert.KernelIdeal.Cands Cert.KernelIdeal.Arrays

/-- The candidates of patch `b`, all nine moves of them. -/
def allCands (x : FVec Ideal S25x64x64x64 .f32) (b : Nat) : FVec Ideal S225x1024 .f32 :=
  Block0.cands (cblk x b 0) (cblk x b 1) (cblk x b 2) (cblk x b 3) (cblk x b 4) (cblk x b 5) (cblk x b 6) (cblk x b 7)
    (cblk x b 8)

theorem allCands_at (x : FVec Ideal S25x64x64x64 .f32) (b : Nat) (p : Fin 225) (e : Fin 1024) :
    allCands x b (ix2 p e) = cnd x b (order e) p := by
  obtain ⟨n, v, rfl⟩ : ∃ (n : Fin 9) (v : Fin 25), p = ⟨25 * n.val + v.val, by omega⟩ :=
    ⟨⟨p.val / 25, by omega⟩, ⟨p.val % 25, Nat.mod_lt _ (by decide)⟩, Fin.ext (by dsimp only; omega)⟩
  rw [allCands, Block0.cands_at]
  have h : ∀ n : Fin 9, (![cblk x b 0, cblk x b 1, cblk x b 2, cblk x b 3, cblk x b 4, cblk x b 5, cblk x b 6, cblk x b 7,
      cblk x b 8] : Fin 9 → FVec Ideal S1x25x1024 .f32) n = cblk x b n.val := by
    intro n
    fin_cases n <;> rfl
  rw [h]
  rfl

theorem dist_eq (x : FVec Ideal S25x64x64x64 .f32) (b : Nat) (p : Fin 225) (u : Fin 25) :
    Block0.dist (qblk x b) (allCands x b) (ix2 p u) = dst x b u p := by
  have hq : ∀ e : Fin 1024, qblk x b (ix3 0 e u) = qry x b (order e) u := fun _ => rfl
  rw [Block0.dist_at, dst]
  simp only [allCands_at, hq]
  rw [Equiv.sum_comp order (fun d : Fin 1024 => cnd x b d p * qry x b d u),
    Equiv.sum_comp order (fun d : Fin 1024 => qry x b d u * qry x b d u),
    Equiv.sum_comp order (fun d : Fin 1024 => cnd x b d p * cnd x b d p)]

theorem matched_at (x : FVec Ideal S25x64x64x64 .f32) (w : FVec Ideal S64x384x1x1 .f32) (b : Fin 256) (o : Fin 64)
    (t : Fin 16) (u : Fin 25) :
    matched x w (ix3 b o ⟨32 * t.val + u.val, by omega⟩) = mixed x w b t u o := by
  have ht := t.isLt
  show Block0.stored (qblk x b.val) (allCands x b.val) (mix w) (ix3 0 o ⟨32 * t.val + u.val, by omega⟩) = _
  rw [Block0.stored_at, mixed]
  refine congrArg lrelu (Finset.sum_congr rfl fun r _ => ?_)
  rw [mix_at, allCands_at, order_val, nth]
  simp only [dist_eq]
  rw [show 16 * ((64 * t.val + r.val % 64) % 64) + (64 * t.val + r.val % 64) / 64 = 16 * (r.val % 64) + t.val by omega]

end Cert.KernelIdeal.Mixed
-- ==== Proof.Block1.lean ====
/- What one grid point of the convolution kernel leaves in its output block.

   The block holds one view: the 3×3 convolution, with zero borders, of the view's 128 channels, rectified. The kernel
   multiplies by the weights of one tap first, then moves the product along the flattened image and masks the columns
   that wrapped around; here each moved and masked product is read as the product at the neighbouring pixel, or zero. -/
module

public import proofs.«01_k».proof.Proof.Block0
public import proofs.«01_k».proof.Proof.Gen.KernelIdeal.Frame
public import Idealize.ShloMosaic.Lib.WordCmp
public import Idealize.ShloMosaic.Lib.Pointwise
public import Idealize.ShloMosaic.Lib.Pipeline.ValueKit

@[expose] public section

set_option maxRecDepth 16384

noncomputable section

namespace Cert.KernelIdeal.Block1

open Idealize.ShloMosaic Idealize.SL.Sem
open Cert.KernelIdeal Cert.KernelIdeal.Gen Cert.KernelIdeal.Block0
open Cert.Spec (lrelu)

/-- A row of a flattened `64 × 64` image read at the neighbour `(dy - 1, dx - 1)` of position `l`; zero off the image. -/
def near (Y : Fin 4096 → EReal) (dy dx : Nat) (l : Fin 4096) : EReal :=
  if h : 1 ≤ l.val / 64 + dy ∧ l.val / 64 + dy ≤ 64 ∧ 1 ≤ l.val % 64 + dx ∧ l.val % 64 + dx ≤ 64 then
    Y ⟨64 * (l.val / 64 + dy - 1) + (l.val % 64 + dx - 1), by omega⟩ else 0

theorem rem64 (u : ArithUnit) (l : Fin 4096) (k : Nat) (hk : k < 64) :
    (FloatOps.sitofp FTy.f32 (BitVec.setWidth 32 (IntOp.cmpi CmpIPredicate.ne (IntOp.remsi u (BitVec.ofNat 32 l.val) 64#32)
      (BitVec.ofNat 32 k))) : Ideal .f32) = if l.val % 64 = k then (0 : EReal) else 1 := by
  have hl : (BitVec.ofNat 32 l.val).toNat = l.val := by
    have := l.isLt
    simp only [BitVec.toNat_ofNat]
    omega
  have hr : (IntOp.remsi u (BitVec.ofNat 32 l.val) 64#32).toNat = l.val % 64 := by
    have h := IntOp.toNat_remsi u (x := BitVec.ofNat 32 l.val) (by rw [hl]; have := l.isLt; omega) 64 (by decide) (by decide)
    rw [hl] at h
    exact h
  have hk' : (BitVec.ofNat 32 k).toNat = k := by
    simp only [BitVec.toNat_ofNat]
    omega
  rw [WordCmp.cmpi_ne_eq_toNat, hr, hk']
  by_cases e : l.val % 64 = k
  · rw [if_pos e, decide_eq_false (by simpa using e)]
    show (((0#32 : BitVec 32).toInt : ℝ) : EReal) = 0
    simp
  · rw [if_neg e, decide_eq_true (by simpa using e)]
    show (((1#32 : BitVec 32).toInt : ℝ) : EReal) = 1
    simp

/-- The mask of the columns that have a right neighbour. -/
theorem right_at (l : Fin 4096) :
    (k1_pay4 : FVec Ideal S1x4096 .f32) (ix2 0 l) = if l.val % 64 = 63 then (0 : EReal) else 1 := by
  pointwise [k1_pay4, k1_pay3]
  exact rem64 _ l 63 (by decide)

/-- The mask of the columns that have a left neighbour. -/
theorem left_at (l : Fin 4096) :
    (k1_pay5 : FVec Ideal S1x4096 .f32) (ix2 0 l) = if l.val % 64 = 0 then (0 : EReal) else 1 := by
  pointwise [k1_pay5, k1_pay3]
  exact rem64 _ l 0 (by decide)

/-! ## The nine taps -/

def tap0 (Y : FVec Ideal S64x4096 .f32) : FVec Ideal S64x4096 .f32 :=
  mulf (concatenate S64x4096 1 [⟨S64x65, broadcast S64x65 (Scalar.ofBits .f32 0x00000000#32)⟩,
      ⟨S64x4031, extractStridedSlice S64x4031 ![0, 0] Y slices_S64x4096_o0_0_S64x4031⟩] concatenates_S64x65_S64x4031_S64x4096_d1)
    (broadcastTo S64x4096 k1_pay5 broadcasts_S1x4096_S64x4096)

theorem tap0_at (Y : FVec Ideal S64x4096 .f32) (o : Fin 64) (l : Fin 4096) :
    tap0 Y (ix2 o l) = near (fun l => Y (ix2 o l)) 0 0 l := by
  pointwise [tap0]
  rw [left_at]
  unfold near
  have hl := l.isLt
  by_cases hm : l.val % 64 = 0
  · rw [if_pos hm, mul_zero, dif_neg (by omega)]
  rw [if_neg hm, mul_one]
  by_cases h : l.val < 65
  · rw [dif_pos h, dif_neg (by omega)]
  · rw [dif_neg h, dif_pos (by omega)]
    exact congrArg (fun k => Y (ix2 o k)) (Fin.ext (by dsimp only; omega))

def tap1 (Y : FVec Ideal S64x4096 .f32) : FVec Ideal S64x4096 .f32 :=
  concatenate S64x4096 1 [⟨S64x64, broadcast S64x64 (Scalar.ofBits .f32 0x00000000#32)⟩,
      ⟨S64x4032, extractStridedSlice S64x4032 ![0, 0] Y slices_S64x4096_o0_0_S64x4032⟩] concatenates_S64x64_S64x4032_S64x4096_d1

theorem tap1_at (Y : FVec Ideal S64x4096 .f32) (o : Fin 64) (l : Fin 4096) :
    tap1 Y (ix2 o l) = near (fun l => Y (ix2 o l)) 0 1 l := by
  pointwise [tap1]
  unfold near
  have hl := l.isLt
  by_cases h : l.val < 64
  · rw [dif_pos h, dif_neg (by omega)]
  · rw [dif_neg h, dif_pos (by omega)]
    exact congrArg (fun k => Y (ix2 o k)) (Fin.ext (by dsimp only; omega))

def tap2 (Y : FVec Ideal S64x4096 .f32) : FVec Ideal S64x4096 .f32 :=
  mulf (concatenate S64x4096 1 [⟨S64x63, broadcast S64x63 (Scalar.ofBits .f32 0x00000000#32)⟩,
      ⟨S64x4033, extractStridedSlice S64x4033 ![0, 0] Y slices_S64x4096_o0_0_S64x4033⟩] concatenates_S64x63_S64x4033_S64x4096_d1)
    (broadcastTo S64x4096 k1_pay4 broadcasts_S1x4096_S64x4096)

theorem tap2_at (Y : FVec Ideal S64x4096 .f32) (o : Fin 64) (l : Fin 4096) :
    tap2 Y (ix2 o l) = near (fun l => Y (ix2 o l)) 0 2 l := by
  pointwise [tap2]
  rw [right_at]
  unfold near
  have hl := l.isLt
  by_cases hm : l.val % 64 = 63
  · rw [if_pos hm, mul_zero, dif_neg (by omega)]
  rw [if_neg hm, mul_one]
  by_cases h : l.val < 63
  · rw [dif_pos h, dif_neg (by omega)]
  · rw [dif_neg h, dif_pos (by omega)]
    exact congrArg (fun k => Y (ix2 o k)) (Fin.ext (by dsimp only; omega))

def tap3 (Y : FVec Ideal S64x4096 .f32) : FVec Ideal S64x4096 .f32 :=
  mulf (concatenate S64x4096 1 [⟨S64x1, broadcast S64x1 (Scalar.ofBits .f32 0x00000000#32)⟩,
      ⟨S64x4095, extractStridedSlice S64x4095 ![0, 0] Y slices_S64x4096_o0_0_S64x4095⟩] concatenates_S64x1_S64x4095_S64x4096_d1)
    (broadcastTo S64x4096 k1_pay5 broadcasts_S1x4096_S64x4096)

theorem tap3_at (Y : FVec Ideal S64x4096 .f32) (o : Fin 64) (l : Fin 4096) :
    tap3 Y (ix2 o l) = near (fun l => Y (ix2 o l)) 1 0 l := by
  pointwise [tap3]
  rw [left_at]
  unfold near
  have hl := l.isLt
  by_cases hm : l.val % 64 = 0
  · rw [if_pos hm, mul_zero, dif_neg (by omega)]
  rw [if_neg hm, mul_one]
  by_cases h : l.val < 1
  · rw [dif_pos h, dif_neg (by omega)]
  · rw [dif_neg h, dif_pos (by omega)]
    exact congrArg (fun k => Y (ix2 o k)) (Fin.ext (by dsimp only; omega))

def tap5 (Y : FVec Ideal S64x4096 .f32) : FVec Ideal S64x4096 .f32 :=
  mulf (concatenate S64x4096 1 [⟨S64x4095, extractStridedSlice S64x4095 ![0, 1] Y slices_S64x4096_o0_1_S64x4095⟩,
      ⟨S64x1, broadcast S64x1 (Scalar.ofBits .f32 0x00000000#32)⟩] concatenates_S64x4095_S64x1_S64x4096_d1)
    (broadcastTo S64x4096 k1_pay4 broadcasts_S1x4096_S64x4096)

theorem tap5_at (Y : FVec Ideal S64x4096 .f32) (o : Fin 64) (l : Fin 4096) :
    tap5 Y (ix2 o l) = near (fun l => Y (ix2 o l)) 1 2 l := by
  pointwise [tap5]
  rw [right_at]
  unfold near
  have hl := l.isLt
  by_cases hm : l.val % 64 = 63
  · rw [if_pos hm, mul_zero, dif_neg (by omega)]
  rw [if_neg hm, mul_one]
  by_cases h : l.val < 4095
  · rw [dif_pos h, dif_pos (by omega)]
    exact congrArg (fun k => Y (ix2 o k)) (Fin.ext (by dsimp only; omega))
  · rw [dif_neg h, dif_neg (by omega)]

def tap6 (Y : FVec Ideal S64x4096 .f32) : FVec Ideal S64x4096 .f32 :=
  mulf (concatenate S64x4096 1 [⟨S64x4033, extractStridedSlice S64x4033 ![0, 63] Y slices_S64x4096_o0_63_S64x4033⟩,
      ⟨S64x63, broadcast S64x63 (Scalar.ofBits .f32 0x00000000#32)⟩] concatenates_S64x4033_S64x63_S64x4096_d1)
    (broadcastTo S64x4096 k1_pay5 broadcasts_S1x4096_S64x4096)

theorem tap6_at (Y : FVec Ideal S64x4096 .f32) (o : Fin 64) (l : Fin 4096) :
    tap6 Y (ix2 o l) = near (fun l => Y (ix2 o l)) 2 0 l := by
  pointwise [tap6]
  rw [left_at]
  unfold near
  have hl := l.isLt
  by_cases hm : l.val % 64 = 0
  · rw [if_pos hm, mul_zero, dif_neg (by omega)]
  rw [if_neg hm, mul_one]
  by_cases h : l.val < 4033
  · rw [dif_pos h, dif_pos (by omega)]
    exact congrArg (fun k => Y (ix2 o k)) (Fin.ext (by dsimp only; omega))
  · rw [dif_neg h, dif_neg (by omega)]

def tap7 (Y : FVec Ideal S64x4096 .f32) : FVec Ideal S64x4096 .f32 :=
  concatenate S64x4096 1 [⟨S64x4032, extractStridedSlice S64x4032 ![0, 64] Y slices_S64x4096_o0_64_S64x4032⟩,
      ⟨S64x64, broadcast S64x64 (Scalar.ofBits .f32 0x00000000#32)⟩] concatenates_S64x4032_S64x64_S64x4096_d1

theorem tap7_at (Y : FVec Ideal S64x4096 .f32) (o : Fin 64) (l : Fin 4096) :
    tap7 Y (ix2 o l) = near (fun l => Y (ix2 o l)) 2 1 l := by
  pointwise [tap7]
  unfold near
  have hl := l.isLt
  by_cases h : l.val < 4032
  · rw [dif_pos h, dif_pos (by omega)]
    exact congrArg (fun k => Y (ix2 o k)) (Fin.ext (by dsimp only; omega))
  · rw [dif_neg h, dif_neg (by omega)]

def tap8 (Y : FVec Ideal S64x4096 .f32) : FVec Ideal S64x4096 .f32 :=
  mulf (concatenate S64x4096 1 [⟨S64x4031, extractStridedSlice S64x4031 ![0, 65] Y slices_S64x4096_o0_65_S64x4031⟩,
      ⟨S64x65, broadcast S64x65 (Scalar.ofBits .f32 0x00000000#32)⟩] concatenates_S64x4031_S64x65_S64x4096_d1)
    (broadcastTo S64x4096 k1_pay4 broadcasts_S1x4096_S64x4096)

theorem tap8_at (Y : FVec Ideal S64x4096 .f32) (o : Fin 64) (l : Fin 4096) :
    tap8 Y (ix2 o l) = near (fun l => Y (ix2 o l)) 2 2 l := by
  pointwise [tap8]
  rw [right_at]
  unfold near
  have hl := l.isLt
  by_cases hm : l.val % 64 = 63
  · rw [if_pos hm, mul_zero, dif_neg (by omega)]
  rw [if_neg hm, mul_one]
  by_cases h : l.val < 4031
  · rw [dif_pos h, dif_pos (by omega)]
    exact congrArg (fun k => Y (ix2 o k)) (Fin.ext (by dsimp only; omega))
  · rw [dif_neg h, dif_neg (by omega)]

/-! ## The whole block -/

/-- The view's 64 feature channels over its 64 gathered channels. -/
def both (x0 x1 : FVec Ideal S1x64x4096 .f32) : FVec Ideal S128x4096 .f32 := k1_pay2 x0 x1

theorem both_at (x0 x1 : FVec Ideal S1x64x4096 .f32) (ch : Fin 128) (l : Fin 4096) :
    both x0 x1 (ix2 ch l) = if h : ch.val < 64 then x0 (ix3 0 ⟨ch.val, h⟩ l) else x1 (ix3 0 ⟨ch.val - 64, by omega⟩ l) := by
  pointwise [both, k1_pay2]

/-- The weights of one tap times the channels. -/
def times (w : FVec Ideal S1x64x128 .f32) (X : FVec Ideal S128x4096 .f32) : FVec Ideal S64x4096 .f32 :=
  matmul dot_S64x128_S128x4096_S64x4096_1_0_0_1_n_n none (shapeCast S64x128 w shapeCasts_S1x64x128_S64x128) X
    (constant S64x4096 .f32 0x00000000#32)

theorem times_at (w : FVec Ideal S1x64x128 .f32) (X : FVec Ideal S128x4096 .f32) (o : Fin 64) (l : Fin 4096) :
    times w X (ix2 o l) = ∑ ch : Fin 128, w (ix3 0 o ch) * X (ix2 ch l) := by
  pointwise [times]

/-- The rectifier, over a leading axis of extent one. -/
def rect (v : FVec Ideal S64x4096 .f32) : FVec Ideal S1x64x4096 .f32 :=
  shapeCast S1x64x4096 (select (cmpf .oge v (broadcast S64x4096 (Scalar.ofBits .f32 0x00000000#32))) v
    (mulf (broadcast S64x4096 (Scalar.ofBits .f32 0x3DCCCCCD#32)) v)) shapeCasts_S64x4096_S1x64x4096

theorem rect_at (v : FVec Ideal S64x4096 .f32) (z : Fin 1) (o : Fin 64) (l : Fin 4096) :
    rect v (ix3 z o l) = lrelu (v (ix2 o l)) := by
  pointwise [rect]
  rfl

/-- The sum of the nine taps, in the kernel's order. -/
def taps (Y : Fin 9 → FVec Ideal S64x4096 .f32) : FVec Ideal S64x4096 .f32 :=
  addf (addf (addf (addf (addf (addf (addf (addf (addf (broadcast S64x4096 (Scalar.ofBits .f32 0x00000000#32)) (tap0 (Y 0)))
    (tap1 (Y 1))) (tap2 (Y 2))) (tap3 (Y 3))) (Y 4)) (tap5 (Y 5))) (tap6 (Y 6))) (tap7 (Y 7))) (tap8 (Y 8))

theorem near_here (Y : Fin 4096 → EReal) (l : Fin 4096) : near Y 1 1 l = Y l := by
  have hl := l.isLt
  unfold near
  rw [dif_pos (by omega)]
  exact congrArg Y (Fin.ext (by dsimp only; omega))

theorem taps_at (Y : Fin 9 → FVec Ideal S64x4096 .f32) (o : Fin 64) (l : Fin 4096) :
    taps Y (ix2 o l) = ∑ t : Fin 9, near (fun l => Y t (ix2 o l)) (t.val / 3) (t.val % 3) l := by
  have h4 := near_here (fun l => Y 4 (ix2 o l)) l
  pointwise [taps]
  rw [tap0_at, tap1_at, tap2_at, tap3_at, tap5_at, tap6_at, tap7_at, tap8_at]
  rw [← h4]
  simp only [Fin.sum_univ_castSucc, Fin.sum_univ_zero, zero_add]
  rfl

/-- What one grid point stores. -/
def stored (x0 x1 : FVec Ideal S1x64x4096 .f32) (w : Fin 9 → FVec Ideal S1x64x128 .f32) : FVec Ideal S1x64x4096 .f32 :=
  rect (taps fun t => times (w t) (both x0 x1))

theorem stored_at (x0 x1 : FVec Ideal S1x64x4096 .f32) (w : Fin 9 → FVec Ideal S1x64x128 .f32) (z : Fin 1) (o : Fin 64)
    (l : Fin 4096) :
    stored x0 x1 w (ix3 z o l) = lrelu (∑ t : Fin 9,
      near (fun l => ∑ ch : Fin 128, w t (ix3 0 o ch) * both x0 x1 (ix2 ch l)) (t.val / 3) (t.val % 3) l) := by
  unfold stored
  rw [rect_at, taps_at]
  simp only [times_at]

/-- The weights of tap `t`, as the block of nine holds them. -/
def tapW (x2 : FVec Ideal S9x64x128 .f32) (t : Fin 9) : FVec Ideal S1x64x128 .f32 := fun i => x2 (ix3 t (i 1) (i 2))

theorem tapW_0 (x2 : Vec Ideal S9x64x128 .f32) : View.ld x2 r1_1 = tapW x2 0 := by
  funext i
  refine congrArg x2 (funext fun a => Fin.ext ?_)
  match a with
  | ⟨0, _⟩ => show 0 + 1 * (i 0).val = 0; have : (i 0).val < 1 := (i 0).isLt; omega
  | ⟨1, _⟩ => show 0 + 1 * (i 1).val = (i 1).val; omega
  | ⟨2, _⟩ => show 0 + 1 * (i 2).val = (i 2).val; omega

theorem tapW_1 (x2 : Vec Ideal S9x64x128 .f32) : View.ld x2 r1_2 = tapW x2 1 := by
  funext i
  refine congrArg x2 (funext fun a => Fin.ext ?_)
  match a with
  | ⟨0, _⟩ => show 1 + 1 * (i 0).val = 1; have : (i 0).val < 1 := (i 0).isLt; omega
  | ⟨1, _⟩ => show 0 + 1 * (i 1).val = (i 1).val; omega
  | ⟨2, _⟩ => show 0 + 1 * (i 2).val = (i 2).val; omega

theorem tapW_2 (x2 : Vec Ideal S9x64x128 .f32) : View.ld x2 r1_3 = tapW x2 2 := by
  funext i
  refine congrArg x2 (funext fun a => Fin.ext ?_)
  match a with
  | ⟨0, _⟩ => show 2 + 1 * (i 0).val = 2; have : (i 0).val < 1 := (i 0).isLt; omega
  | ⟨1, _⟩ => show 0 + 1 * (i 1).val = (i 1).val; omega
  | ⟨2, _⟩ => show 0 + 1 * (i 2).val = (i 2).val; omega

theorem tapW_3 (x2 : Vec Ideal S9x64x128 .f32) : View.ld x2 r1_4 = tapW x2 3 := by
  funext i
  refine congrArg x2 (funext fun a => Fin.ext ?_)
  match a with
  | ⟨0, _⟩ => show 3 + 1 * (i 0).val = 3; have : (i 0).val < 1 := (i 0).isLt; omega
  | ⟨1, _⟩ => show 0 + 1 * (i 1).val = (i 1).val; omega
  | ⟨2, _⟩ => show 0 + 1 * (i 2).val = (i 2).val; omega

theorem tapW_4 (x2 : Vec Ideal S9x64x128 .f32) : View.ld x2 r1_5 = tapW x2 4 := by
  funext i
  refine congrArg x2 (funext fun a => Fin.ext ?_)
  match a with
  | ⟨0, _⟩ => show 4 + 1 * (i 0).val = 4; have : (i 0).val < 1 := (i 0).isLt; omega
  | ⟨1, _⟩ => show 0 + 1 * (i 1).val = (i 1).val; omega
  | ⟨2, _⟩ => show 0 + 1 * (i 2).val = (i 2).val; omega

theorem tapW_5 (x2 : Vec Ideal S9x64x128 .f32) : View.ld x2 r1_6 = tapW x2 5 := by
  funext i
  refine congrArg x2 (funext fun a => Fin.ext ?_)
  match a with
  | ⟨0, _⟩ => show 5 + 1 * (i 0).val = 5; have : (i 0).val < 1 := (i 0).isLt; omega
  | ⟨1, _⟩ => show 0 + 1 * (i 1).val = (i 1).val; omega
  | ⟨2, _⟩ => show 0 + 1 * (i 2).val = (i 2).val; omega

theorem tapW_6 (x2 : Vec Ideal S9x64x128 .f32) : View.ld x2 r1_7 = tapW x2 6 := by
  funext i
  refine congrArg x2 (funext fun a => Fin.ext ?_)
  match a with
  | ⟨0, _⟩ => show 6 + 1 * (i 0).val = 6; have : (i 0).val < 1 := (i 0).isLt; omega
  | ⟨1, _⟩ => show 0 + 1 * (i 1).val = (i 1).val; omega
  | ⟨2, _⟩ => show 0 + 1 * (i 2).val = (i 2).val; omega

theorem tapW_7 (x2 : Vec Ideal S9x64x128 .f32) : View.ld x2 r1_8 = tapW x2 7 := by
  funext i
  refine congrArg x2 (funext fun a => Fin.ext ?_)
  match a with
  | ⟨0, _⟩ => show 7 + 1 * (i 0).val = 7; have : (i 0).val < 1 := (i 0).isLt; omega
  | ⟨1, _⟩ => show 0 + 1 * (i 1).val = (i 1).val; omega
  | ⟨2, _⟩ => show 0 + 1 * (i 2).val = (i 2).val; omega

theorem tapW_8 (x2 : Vec Ideal S9x64x128 .f32) : View.ld x2 r1_9 = tapW x2 8 := by
  funext i
  refine congrArg x2 (funext fun a => Fin.ext ?_)
  match a with
  | ⟨0, _⟩ => show 8 + 1 * (i 0).val = 8; have : (i 0).val < 1 := (i 0).isLt; omega
  | ⟨1, _⟩ => show 0 + 1 * (i 1).val = (i 1).val; omega
  | ⟨2, _⟩ => show 0 + 1 * (i 2).val = (i 2).val; omega

theorem out_eq (x0 x1 : Vec Ideal S1x64x4096 .f32) (x2 : Vec Ideal S9x64x128 .f32) :
    out1_3 x0 x1 x2 = stored x0 x1 (tapW x2) := by
  have h9 : k1_pay9 x0 x1 x2 = both x0 x1 := by
    unfold k1_pay9
    frame_out
    rfl
  frame_out
  rw [h9, tapW_0, tapW_1, tapW_2, tapW_3, tapW_4, tapW_5, tapW_6, tapW_7, tapW_8]
  rfl

end Cert.KernelIdeal.Block1

end
-- ==== Proof.Result.lean ====
/- What the second launch's result array holds, and with it the kernel program's result. -/
module

public import proofs.«01_k».proof.Proof.Mixed
public import proofs.«01_k».proof.Proof.Block1

@[expose] public section

set_option maxRecDepth 16384

noncomputable section

namespace Cert.KernelIdeal.Result

open Idealize.ShloMosaic Idealize.SL.Sem Idealize.ShloMosaic.Pipeline
open Cert.KernelIdeal Cert.KernelIdeal.Gen Cert.KernelIdeal.Host Cert.KernelIdeal.Maps

/-- View `u` of an image. -/
def view (y : FVec Ideal S25x64x4096 .f32) (u : Fin 25) : FVec Ideal S1x64x4096 .f32 := fun j => y (ix3 u (j 1) (j 2))

variable (m : (ℓ : Loc nD τ sig) → Buf (Elt Ideal) ℓ) (ρ : Dev nD → PrngReg) (c : Dev nD)
variable (V : (c : Dev nD) → (b : Ref sig .tc) → Buf (Elt Ideal) (c.tc.loc b))

theorem block0_of (y : FVec Ideal S25x64x4096 .f32) (h : V c main_v24 = y) (t : Fin cfg1.N) :
    iblk1 V c 0 t = view y t := by
  funext j
  idx_vars j
  blk_simp [iblk1]
  rw [h, show (win1_0.blk t).view.emb (ix3 j0 j1 j2) = ix3 (n0 := 25) t j1 j2 by blk_ext [index1_0]]
  rfl

theorem block1_of (y : FVec Ideal S25x64x4096 .f32) (h : V c main_v23 = y) (t : Fin cfg1.N) :
    iblk1 V c 1 t = view y t := by
  funext j
  idx_vars j
  blk_simp [iblk1]
  rw [h, show (win1_1.blk t).view.emb (ix3 j0 j1 j2) = ix3 (n0 := 25) t j1 j2 by blk_ext [index1_1]]
  rfl

theorem block2_of (y : FVec Ideal S9x64x128 .f32) (h : V c main_v26 = y) (t : Fin cfg1.N) :
    iblk1 V c 2 t = y := by
  funext j
  idx_vars j
  blk_simp [iblk1]
  rw [h, show (win1_2.blk t).view.emb (ix3 j0 j1 j2) = ix3 j0 j1 j2 by blk_ext [index1_2]]

/-- The second launch's array from the arrays it reads: each view's block in turn. -/
def convolved (x y : FVec Ideal S25x64x4096 .f32) (w : FVec Ideal S9x64x128 .f32) : FVec Ideal S25x64x4096 .f32 := fun i =>
  Block1.stored (view x (i 0)) (view y (i 0)) (Block1.tapW w) (ix3 0 (i 1) (i 2))

theorem array1_of (x y : FVec Ideal S25x64x4096 .f32) (w : FVec Ideal S9x64x128 .f32) (hx : V c main_v24 = x)
    (hy : V c main_v23 = y) (hw : V c main_v26 = w) : (dat1 V c).arrAt 3 cfg1.N = convolved x y w := by
  refine (dat1 V c).arrAt_eq_of_covers 3 _ (by decide +kernel) fun t hf z => ?_
  blk_simp
  rw [after1_3, Block1.out_eq, block0_of c V x hx, block1_of c V y hy, block2_of c V w hw]
  idx_vars z
  rw [show (win1_3.blk t).view.emb (ix3 z0 z1 z2) = ix3 (n0 := 25) t z1 z2 by blk_ext [index1_3]]
  obtain rfl : z0 = 0 := Fin.ext (by have := z0.isLt; omega)
  rfl

/-- The mended image as the second launch reads it. -/
theorem placed_at (x : FVec Ideal S25x64x64x64 .f32) (w : FVec Ideal S64x384x1x1 .f32) (u : Fin 25) (o : Fin 64)
    (l : Fin 4096) : place (Arrays.matched x w) (ix3 u o l) = Spec.mend x w u o (l.val / 64) (l.val % 64) := by
  have hl := l.isLt
  rw [place_at]
  exact Mixed.matched_at x w ⟨16 * (l.val / 64 / 4) + l.val % 64 / 4, by omega⟩ o
    ⟨4 * (l.val / 64 % 4) + l.val % 64 % 4, by omega⟩ u

theorem both_eq (x : FVec Ideal S25x64x64x64 .f32) (w : FVec Ideal S64x384x1x1 .f32) (u : Fin 25) (ch : Fin 128)
    (l : Fin 4096) :
    Block1.both (view (flat x) u) (view (place (Arrays.matched x w)) u) (ix2 ch l)
      = Spec.both x w u ch (l.val / 64) (l.val % 64) := by
  rw [Block1.both_at, Spec.both]
  split
  · exact flat_at x u ⟨ch.val, by assumption⟩ l
  · exact placed_at x w u _ l

theorem convolved_at (x : FVec Ideal S25x64x64x64 .f32) (w1 : FVec Ideal S64x384x1x1 .f32)
    (w2 : FVec Ideal S64x128x3x3 .f32) (i : S25x64x64x64.Idx) :
    square (convolved (flat x) (place (Arrays.matched x w1)) (taps w2)) i = Spec.out x w1 w2 i := by
  idx_vars i
  have h2 := i2.isLt
  have h3 := i3.isLt
  rw [square_at]
  show Block1.stored (view (flat x) i0) (view (place (Arrays.matched x w1)) i0) (Block1.tapW (taps w2)) (ix3 0 i1 ⟨64 * i2.val + i3.val, by omega⟩)
    = Spec.lrelu _
  rw [Block1.stored_at]
  refine congrArg Spec.lrelu (Finset.sum_congr rfl fun t _ => ?_)
  have ht := t.isLt
  show _ = Spec.tap x w1 w2 i0 i1 i2.val i3.val ⟨t.val / 3, _⟩ ⟨t.val % 3, _⟩
  rw [Block1.near, Spec.tap]
  dsimp only
  have e1 : (64 * i2.val + i3.val) / 64 = i2.val := by omega
  have e2 : (64 * i2.val + i3.val) % 64 = i3.val := by omega
  simp only [e1, e2]
  by_cases hc : 1 ≤ i2.val + t.val / 3 ∧ i2.val + t.val / 3 ≤ 64 ∧ 1 ≤ i3.val + t.val % 3 ∧ i3.val + t.val % 3 ≤ 64
  · rw [dif_pos hc, if_pos hc]
    refine Finset.sum_congr rfl fun ch _ => ?_
    rw [both_eq]
    dsimp only
    rw [show (64 * (i2.val + t.val / 3 - 1) + (i3.val + t.val % 3 - 1)) / 64 = i2.val + t.val / 3 - 1 by omega,
      show (64 * (i2.val + t.val / 3 - 1) + (i3.val + t.val % 3 - 1)) % 64 = i3.val + t.val % 3 - 1 by omega]
    exact congrArg (· * _) (taps_at w2 t i1 ch)
  · rw [dif_neg hc, if_neg hc]

/-- The kernel program's result. -/
theorem result : W11 m ρ c (Proc.devRef .tc main_v28) = Spec.out (arg0 m c) (arg1 m c) (arg2 m c) := by
  have h23 : V9 m ρ c main_v23 = place (Arrays.matched (arg0 m c) (arg1 m c)) :=
    (at_v23 m ρ c).trans (congrArg place (Arrays.at_v19 m ρ c))
  rw [at_v28]
  have h27 : W10 m ρ c (Proc.devRef .tc main_v27)
      = convolved (flat (arg0 m c)) (place (Arrays.matched (arg0 m c) (arg1 m c))) (taps (arg2 m c)) :=
    (W10_arr m ρ c 3).trans (array1_of c (V9 m ρ) _ _ _ (at_v24 m ρ c) h23 (at_v26 m ρ c))
  exact (congrArg square h27).trans (funext fun i => convolved_at _ _ _ i)

end Cert.KernelIdeal.Result
-- ==== Proof.KernelRun.lean ====
/- The kernel program's run with its result: every execution ends with the result array at the specification's value. -/
module

public import proofs.«01_k».proof.Proof.Result

@[expose] public section

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Host

variable (m : (ℓ : Loc nD τ sig) → Buf (Elt Ideal) ℓ) (ρ : Dev nD → PrngReg)

set_option backward.isDefEq.respectTransparency.types false in
/-- The launch of the frame, its last state read at the result array as well. -/
theorem run : θ_run defs (onTc (τ := τ) (main (F := Ideal))) ⟨m, fun _ => 0, ρ⟩ (fun r => ∀ c : Dev nD,
      r.2.mem ((c.tc : Thread nD τ).loc main_v28) = Spec.out (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨(h c _ (mem_uc main_v28 (by decide))).trans (result m ρ c),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c)⟩)

end Cert.KernelIdeal.Result
-- ==== Proof.RefPatch.lean ====
/- The reference's patches, its nine moved images and its distances, entry by entry. -/
module

public import proofs.«01_k».proof.Proof.Spec
public import proofs.«01_k».proof.Proof.Gen.ReferenceIdeal.Run

@[expose] public section

set_option maxRecDepth 16384

noncomputable section

namespace Cert.ReferenceIdeal.Patch

open Idealize.ShloMosaic Idealize.SL.Sem
open Cert.ReferenceIdeal Cert.ReferenceIdeal.Gen Cert.ReferenceIdeal.Value Cert.Spec

/-- The image cut into patches: entry, then view. -/
def patch (x : FVec Ideal S25x64x64x64 .f32) : FVec Ideal S256x1024x25 .f32 :=
  shapeCast S256x1024x25 (transpose S1x16x16x64x4x4x25 [0, 3, 5, 2, 4, 6, 1]
    (shapeCast S1x25x64x16x4x16x4 x shapeCasts_S25x64x64x64_S1x25x64x16x4x16x4)
    transposes_S1x25x64x16x4x16x4_S1x16x16x64x4x4x25_0_3_5_2_4_6_1) shapeCasts_S1x16x16x64x4x4x25_S256x1024x25

theorem patch_at (x : FVec Ideal S25x64x64x64 .f32) (b : Fin 256) (d : Fin 1024) (u : Fin 25) :
    patch x (ix3 b d u) = px x u (d.val / 16) (4 * (b.val / 16) + d.val % 16 / 4) (4 * (b.val % 16) + d.val % 4) := by
  pointwise [patch]
  refine (px_eq x _ _ _ _).trans (px_congr x ?_ ?_ ?_ ?_) <;> dsimp only <;> omega

/-! ## The image moved around its edges -/

def down0 (x : FVec Ideal S25x64x64x64 .f32) : FVec Ideal S25x64x64x64 .f32 :=
  concatenate S25x64x64x64 2
    [⟨S25x64x64x64, extractStridedSlice S25x64x64x64 ![0, 0, 0, 0] x slices_S25x64x64x64_S25x64x64x64_0_0_0_0⟩,
     ⟨S25x64x0x64, extractStridedSlice S25x64x0x64 ![0, 0, 0, 0] x slices_S25x64x64x64_S25x64x0x64_0_0_0_0⟩]
    concatenates_S25x64x64x64_S25x64x0x64_S25x64x64x64_d2

def down2 (x : FVec Ideal S25x64x64x64 .f32) : FVec Ideal S25x64x64x64 .f32 :=
  concatenate S25x64x64x64 2
    [⟨S25x64x2x64, extractStridedSlice S25x64x2x64 ![0, 0, 62, 0] x slices_S25x64x64x64_S25x64x2x64_0_0_62_0⟩,
     ⟨S25x64x62x64, extractStridedSlice S25x64x62x64 ![0, 0, 0, 0] x slices_S25x64x64x64_S25x64x62x64_0_0_0_0⟩]
    concatenates_S25x64x2x64_S25x64x62x64_S25x64x64x64_d2

def down4 (x : FVec Ideal S25x64x64x64 .f32) : FVec Ideal S25x64x64x64 .f32 :=
  concatenate S25x64x64x64 2
    [⟨S25x64x4x64, extractStridedSlice S25x64x4x64 ![0, 0, 60, 0] x slices_S25x64x64x64_S25x64x4x64_0_0_60_0⟩,
     ⟨S25x64x60x64, extractStridedSlice S25x64x60x64 ![0, 0, 0, 0] x slices_S25x64x64x64_S25x64x60x64_0_0_0_0⟩]
    concatenates_S25x64x4x64_S25x64x60x64_S25x64x64x64_d2

def right0 (x : FVec Ideal S25x64x64x64 .f32) : FVec Ideal S25x64x64x64 .f32 :=
  concatenate S25x64x64x64 3
    [⟨S25x64x64x64, extractStridedSlice S25x64x64x64 ![0, 0, 0, 0] x slices_S25x64x64x64_S25x64x64x64_0_0_0_0⟩,
     ⟨S25x64x64x0, extractStridedSlice S25x64x64x0 ![0, 0, 0, 0] x slices_S25x64x64x64_S25x64x64x0_0_0_0_0⟩]
    concatenates_S25x64x64x64_S25x64x64x0_S25x64x64x64_d3

def right2 (x : FVec Ideal S25x64x64x64 .f32) : FVec Ideal S25x64x64x64 .f32 :=
  concatenate S25x64x64x64 3
    [⟨S25x64x64x2, extractStridedSlice S25x64x64x2 ![0, 0, 0, 62] x slices_S25x64x64x64_S25x64x64x2_0_0_0_62⟩,
     ⟨S25x64x64x62, extractStridedSlice S25x64x64x62 ![0, 0, 0, 0] x slices_S25x64x64x64_S25x64x64x62_0_0_0_0⟩]
    concatenates_S25x64x64x2_S25x64x64x62_S25x64x64x64_d3

def right4 (x : FVec Ideal S25x64x64x64 .f32) : FVec Ideal S25x64x64x64 .f32 :=
  concatenate S25x64x64x64 3
    [⟨S25x64x64x4, extractStridedSlice S25x64x64x4 ![0, 0, 0, 60] x slices_S25x64x64x64_S25x64x64x4_0_0_0_60⟩,
     ⟨S25x64x64x60, extractStridedSlice S25x64x64x60 ![0, 0, 0, 0] x slices_S25x64x64x64_S25x64x64x60_0_0_0_0⟩]
    concatenates_S25x64x64x4_S25x64x64x60_S25x64x64x64_d3

theorem down0_px (x : FVec Ideal S25x64x64x64 .f32) (v c h w : Nat) : px (down0 x) v c h w = px x v c (h + 64 - 2 * 0) w := by
  unfold px
  pointwise [down0]
  split <;> (refine (px_eq x _ _ _ _).trans (px_congr x ?_ ?_ ?_ ?_) <;> dsimp only <;> omega)

theorem down2_px (x : FVec Ideal S25x64x64x64 .f32) (v c h w : Nat) : px (down2 x) v c h w = px x v c (h + 64 - 2 * 1) w := by
  unfold px
  pointwise [down2]
  split <;> (refine (px_eq x _ _ _ _).trans (px_congr x ?_ ?_ ?_ ?_) <;> dsimp only <;> omega)

theorem down4_px (x : FVec Ideal S25x64x64x64 .f32) (v c h w : Nat) : px (down4 x) v c h w = px x v c (h + 64 - 2 * 2) w := by
  unfold px
  pointwise [down4]
  split <;> (refine (px_eq x _ _ _ _).trans (px_congr x ?_ ?_ ?_ ?_) <;> dsimp only <;> omega)

theorem right0_px (x : FVec Ideal S25x64x64x64 .f32) (v c h w : Nat) : px (right0 x) v c h w = px x v c h (w + 64 - 2 * 0) := by
  unfold px
  pointwise [right0]
  split <;> (refine (px_eq x _ _ _ _).trans (px_congr x ?_ ?_ ?_ ?_) <;> dsimp only <;> omega)

theorem right2_px (x : FVec Ideal S25x64x64x64 .f32) (v c h w : Nat) : px (right2 x) v c h w = px x v c h (w + 64 - 2 * 1) := by
  unfold px
  pointwise [right2]
  split <;> (refine (px_eq x _ _ _ _).trans (px_congr x ?_ ?_ ?_ ?_) <;> dsimp only <;> omega)

theorem right4_px (x : FVec Ideal S25x64x64x64 .f32) (v c h w : Nat) : px (right4 x) v c h w = px x v c h (w + 64 - 2 * 2) := by
  unfold px
  pointwise [right4]
  split <;> (refine (px_eq x _ _ _ _).trans (px_congr x ?_ ?_ ?_ ?_) <;> dsimp only <;> omega)

/-! ## The distances -/

/-- The squared distances of the patches `q` and the patches `y` of one moved image. -/
def dist (q y : FVec Ideal S256x1024x25 .f32) : FVec Ideal S256x25x25 .f32 :=
  addf (addf (mulf (broadcastInDim S256x25x25 ![] bcast_S_S256x25x25 (constant S_ .f32 0xC0000000#32))
      (Host.dotGeneral dot_S256x25x1024_S256x1024x25_S256x25x25_2_1_1_2_0_0 none
        (transpose S256x25x1024 [0, 2, 1] q transposes_S256x1024x25_S256x25x1024_0_2_1) y))
    (broadcastInDim S256x25x25 ![0, 1, 2] bcast_S256x25x1_S256x25x25_0_1_2
      (broadcastInDim S256x25x1 ![0, 1] bcast_S256x25_S256x25x1_0_1
        (Host.reduceAdd (mulf (transpose S256x25x1024 [0, 2, 1] q transposes_S256x1024x25_S256x25x1024_0_2_1)
            (transpose S256x25x1024 [0, 2, 1] q transposes_S256x1024x25_S256x25x1024_0_2_1))
          (constant S_ .f32 0x00000000#32) reducesTo_S256x25x1024_S256x25_d2 h_S_))))
    (broadcastInDim S256x25x25 ![0, 1, 2] bcast_S256x1x25_S256x25x25_0_1_2
      (broadcastInDim S256x1x25 ![0, 2] bcast_S256x25_S256x1x25_0_2
        (Host.reduceAdd (mulf y y) (constant S_ .f32 0x00000000#32) reducesTo_S256x1024x25_S256x25_d1 h_S_)))

theorem dist_at (q y : FVec Ideal S256x1024x25 .f32) (b : Fin 256) (u p : Fin 25) :
    dist q y (ix3 b u p) = (Ideal.ofBits .f32 0xC0000000#32 * (∑ d : Fin 1024, y (ix3 b d p) * q (ix3 b d u))
      + ∑ d : Fin 1024, q (ix3 b d u) * q (ix3 b d u)) + ∑ d : Fin 1024, y (ix3 b d p) * y (ix3 b d p) := by
  pointwise [dist]
  simp only [mul_comm (q _) (y _)]

end Cert.ReferenceIdeal.Patch
-- ==== Proof.RefPick.lean ====
/- The reference's table of candidates, its table of distances, and the six candidates it picks for each patch. -/
module

public import proofs.«01_k».proof.Proof.RefPatch

@[expose] public section

set_option maxRecDepth 16384

noncomputable section

namespace Cert.ReferenceIdeal.Picks

open Idealize.ShloMosaic Idealize.SL.Sem
open Cert.ReferenceIdeal Cert.ReferenceIdeal.Gen Cert.ReferenceIdeal.Value Cert.Spec Cert.Pick Cert.ReferenceIdeal.Patch

/-- The nine moved images. -/
def shifted (x : FVec Ideal S25x64x64x64 .f32) : Fin 9 → FVec Ideal S25x64x64x64 .f32
  | 0 => right0 (down0 x)
  | 1 => right2 (down0 x)
  | 2 => right4 (down0 x)
  | 3 => right0 (down2 x)
  | 4 => right2 (down2 x)
  | 5 => right4 (down2 x)
  | 6 => right0 (down4 x)
  | 7 => right2 (down4 x)
  | 8 => right4 (down4 x)

theorem shifted_px (x : FVec Ideal S25x64x64x64 .f32) (n : Fin 9) (v c h w : Nat) :
    px (shifted x n) v c h w = px x v c (h + 64 - 2 * (n.val / 3)) (w + 64 - 2 * (n.val % 3)) := by
  match n with
  | 0 => rw [shifted, right0_px, down0_px]; rfl
  | 1 => rw [shifted, right2_px, down0_px]; rfl
  | 2 => rw [shifted, right4_px, down0_px]; rfl
  | 3 => rw [shifted, right0_px, down2_px]; rfl
  | 4 => rw [shifted, right2_px, down2_px]; rfl
  | 5 => rw [shifted, right4_px, down2_px]; rfl
  | 6 => rw [shifted, right0_px, down4_px]; rfl
  | 7 => rw [shifted, right2_px, down4_px]; rfl
  | 8 => rw [shifted, right4_px, down4_px]; rfl

/-- The patches of the nine moved images. -/
def moves (x : FVec Ideal S25x64x64x64 .f32) (n : Fin 9) : FVec Ideal S256x1024x25 .f32 := patch (shifted x n)

theorem moves_at (x : FVec Ideal S25x64x64x64 .f32) (n : Fin 9) (b : Fin 256) (d : Fin 1024) (v : Fin 25) :
    moves x n (ix3 b d v) = cnd x b d (25 * n.val + v.val) := by
  rw [moves, patch_at, shifted_px, cnd]
  rw [show (25 * n.val + v.val) / 75 = n.val / 3 by omega, show (25 * n.val + v.val) / 25 % 3 = n.val % 3 by omega]
  exact px_congr x (by omega) rfl rfl rfl

/-- All candidates side by side. -/
def cands (x : FVec Ideal S25x64x64x64 .f32) : FVec Ideal S256x1024x225 .f32 :=
  concatenate S256x1024x225 2 [⟨S256x1024x25, moves x 0⟩, ⟨S256x1024x25, moves x 1⟩, ⟨S256x1024x25, moves x 2⟩,
    ⟨S256x1024x25, moves x 3⟩, ⟨S256x1024x25, moves x 4⟩, ⟨S256x1024x25, moves x 5⟩, ⟨S256x1024x25, moves x 6⟩,
    ⟨S256x1024x25, moves x 7⟩, ⟨S256x1024x25, moves x 8⟩]
    concatenates_S256x1024x25_S256x1024x25_S256x1024x25_S256x1024x25_S256x1024x25_S256x1024x25_S256x1024x25_S256x1024x25_S256x1024x25_S256x1024x225_d2

theorem cands_at (x : FVec Ideal S25x64x64x64 .f32) (b : Fin 256) (d : Fin 1024) (p : Fin 225) :
    cands x (ix3 b d p) = cnd x b d p := by
  refine (concatenate_ofFn_apply (t := S256x1024x225) (s₁ := S256x1024x25) 2 (fun n : Fin 9 => moves x n)
    concatenates_S256x1024x25_S256x1024x25_S256x1024x25_S256x1024x25_S256x1024x25_S256x1024x25_S256x1024x25_S256x1024x25_S256x1024x25_S256x1024x225_d2
    rfl 25 rfl (ix3 b d p : S256x1024x225.Idx) ⟨p.val / 25, by omega⟩ rfl (ix3 b d ⟨p.val % 25, Nat.mod_lt _ (by decide)⟩) rfl
    (by intro a ha; match a with
        | ⟨0, _⟩ => rfl
        | ⟨1, _⟩ => rfl
        | ⟨2, _⟩ => exact absurd rfl ha)).trans ?_
  rw [moves_at]
  congr 1
  dsimp only
  omega

/-- All distances side by side. -/
def dists (x : FVec Ideal S25x64x64x64 .f32) : FVec Ideal S256x25x225 .f32 :=
  concatenate S256x25x225 2 [⟨S256x25x25, dist (patch x) (moves x 0)⟩, ⟨S256x25x25, dist (patch x) (moves x 1)⟩,
    ⟨S256x25x25, dist (patch x) (moves x 2)⟩, ⟨S256x25x25, dist (patch x) (moves x 3)⟩,
    ⟨S256x25x25, dist (patch x) (moves x 4)⟩, ⟨S256x25x25, dist (patch x) (moves x 5)⟩,
    ⟨S256x25x25, dist (patch x) (moves x 6)⟩, ⟨S256x25x25, dist (patch x) (moves x 7)⟩,
    ⟨S256x25x25, dist (patch x) (moves x 8)⟩]
    concatenates_S256x25x25_S256x25x25_S256x25x25_S256x25x25_S256x25x25_S256x25x25_S256x25x25_S256x25x25_S256x25x25_S256x25x225_d2

theorem dists_at (x : FVec Ideal S25x64x64x64 .f32) (b : Fin 256) (u : Fin 25) (p : Fin 225) :
    dists x (ix3 b u p) = dst x b u p := by
  refine (concatenate_ofFn_apply (t := S256x25x225) (s₁ := S256x25x25) 2 (fun n : Fin 9 => dist (patch x) (moves x n))
    concatenates_S256x25x25_S256x25x25_S256x25x25_S256x25x25_S256x25x25_S256x25x25_S256x25x25_S256x25x25_S256x25x25_S256x25x225_d2
    rfl 25 rfl (ix3 b u p : S256x25x225.Idx) ⟨p.val / 25, by omega⟩ rfl (ix3 b u ⟨p.val % 25, Nat.mod_lt _ (by decide)⟩) rfl
    (by intro a ha; match a with
        | ⟨0, _⟩ => rfl
        | ⟨1, _⟩ => rfl
        | ⟨2, _⟩ => exact absurd rfl ha)).trans ?_
  have hq : ∀ d : Fin 1024, patch x (ix3 b d u) = qry x b d u := fun d => patch_at x b d u
  rw [dist_at, dst]
  simp only [moves_at, hq, show 25 * (p.val / 25) + p.val % 25 = p.val from Nat.div_add_mod ..]

/-! ## The picks -/

theorem along_last (y : Fin 256) (u : Fin 25) (k p : Fin 225) :
    (ix3 y u k : S256x25x225.Idx).along 2 p = ix3 y u p := by
  funext a
  match a with
  | ⟨0, _⟩ => rfl
  | ⟨1, _⟩ => rfl
  | ⟨2, _⟩ => rfl

/-- The second array of a sort, read at an index. -/
theorem sort2_snd {s : Shape} {α β : Type} (d : Nat) (hd : d < s.rank) (cmp : α × β → α × β → BitVec 1) (x : s.Idx → α) (y : s.Idx → β)
    (j : s.Idx) :
    (Host.sort2 s d cmp x y).2 j = y (j.along ⟨d, hd⟩ (sortedFrom
      (fun k k' => cmp (x (j.along ⟨d, hd⟩ k), y (j.along ⟨d, hd⟩ k)) (x (j.along ⟨d, hd⟩ k'), y (j.along ⟨d, hd⟩ k')) == 1#1)
      (j ⟨d, hd⟩))) := by
  unfold Host.sort2
  rw [dif_pos hd]

/-- The places a sort with positions leaves behind, read at an index. -/
theorem topK_snd {s t : Shape} {α : Type} (d : Nat) (hd : d < s.rank) (gt : α → α → BitVec 1) (x : s.Idx → α)
    (h : s.Slices (fun _ => 0) t) (i : t.Idx) (j : s.Idx)
    (hj : ∀ f : s.Idx → BitVec 32, extractStridedSlice t (fun _ => 0) f h i = f j) :
    (Host.topK t d gt x h).2 i = BitVec.ofNat 32 ((j.along ⟨d, hd⟩ (sortedFrom
      (fun k k' => gt (x (j.along ⟨d, hd⟩ k)) (x (j.along ⟨d, hd⟩ k')) == 1#1) (j ⟨d, hd⟩))) ⟨d, hd⟩).val := by
  unfold Host.topK
  refine (hj _).trans ?_
  refine (sort2_snd d hd _ _ _ _).trans ?_
  rw [dif_pos hd]
  rfl

/-- The positions the sort of a row leaves in its first places. -/
theorem topK_at (gt : EReal → EReal → BitVec 1) (y : FVec Ideal S256x25x225 .f32) (b : Fin 256) (u : Fin 25) (k : Fin 6)
    (k' : Fin 225) (hk : k'.val = k.val) :
    (Host.topK S256x25x6 2 gt y sliceFits_S256x25x225_S256x25x6).2 (ix3 b u k)
      = BitVec.ofNat 32 (sortedFrom (fun p q : Fin 225 => gt (y (ix3 b u p)) (y (ix3 b u q)) == 1#1) k').val := by
  rw [topK_snd (s := S256x25x225) 2 (by decide) gt y _ _ (ix3 b u k') ?_]
  · have e : ∀ p : Fin 225, (ix3 b u k' : S256x25x225.Idx).along (2 : Fin 3) p = ix3 b u p := along_last b u k'
    have f : ∀ p : Fin 225, ((ix3 b u k' : S256x25x225.Idx).along (2 : Fin 3) p) (2 : Fin 3) = p := fun p => by
      rw [e]; rfl
    refine (congrArg (fun v : Fin 225 => BitVec.ofNat 32 v.val) (f _)).trans ?_
    refine congrArg (fun g : Fin 225 → Fin 225 → Bool => BitVec.ofNat 32 (sortedFrom g k').val) ?_
    funext p q
    exact congrArg₂ (fun a a' => gt (y a) (y a') == 1#1) (e p) (e q)
  · intro f
    refine congrArg f ?_
    funext a
    match a with
    | ⟨0, _⟩ => exact Fin.ext (Nat.zero_add _)
    | ⟨1, _⟩ => exact Fin.ext (Nat.zero_add _)
    | ⟨2, _⟩ => exact Fin.ext ((Nat.zero_add _).trans hk.symm)

/-- The positions of the six nearest candidates. -/
def top (x : FVec Ideal S25x64x64x64 .f32) : IVec S256x25x6 32 :=
  (Host.topK S256x25x6 2 (FloatOps.cmpfTotal .gt) (Host.negf (dists x)) sliceFits_S256x25x225_S256x25x6).2

theorem top_at (x : FVec Ideal S25x64x64x64 .f32) (b : Fin 256) (u : Fin 25) (k : Fin 6)
    (hx : ∀ p : Fin 225, dst x b u p ≠ ⊤) : top x (ix3 b u k) = BitVec.ofNat 32 (nth x b u k.val) := by
  have hlt : ∀ a a' : EReal, (Ideal.cmp .ogt (-a) (-a') == 1#1) = decide (a < a') := by
    intro a a'
    unfold Ideal.cmp
    simp only [EReal.neg_lt_neg_iff]
    by_cases h : a < a' <;> simp [h]
  have e : ∀ p : Fin 225, (Host.negf (dists x)) (ix3 b u p) = - dst x b u p := fun p => congrArg Neg.neg (dists_at x b u p)
  have s := sortedFrom_eq_sel (fun p : Fin 225 => dst x b u p) hx 6 (by decide) k
  unfold nth top
  rw [← s]
  refine (topK_at (fun a a' => Ideal.cmp .ogt a a') _ b u k (k.castLE (by decide)) rfl).trans ?_
  simp only [e, hlt]

end Cert.ReferenceIdeal.Picks
-- ==== Proof.RefGather.lean ====
/- The picked candidates the reference gathers, and the folding of them into images. -/
module

public import proofs.«01_k».proof.Proof.RefPick

@[expose] public section

set_option maxRecDepth 16384

noncomputable section

namespace Cert.ReferenceIdeal.Gather

open Idealize.ShloMosaic Idealize.SL.Sem
open Cert.ReferenceIdeal Cert.ReferenceIdeal.Gen Cert.ReferenceIdeal.Value Cert.Spec Cert.Pick Cert.ReferenceIdeal.Picks

/-- How the gather reads its table: row and column stay, and the last coordinate is the index word's value, kept in range. -/
abbrev way : GatherDims S256x1024x225 S256x1024x150x1 S256x1024x150 :=
  gather_S256x1024x225_S256x1024x150x1_S256x1024x150_n_2_01_01_2_3_111

theorem way_word (b : Fin 256) (d : Fin 1024) (q : Fin 150) (k : Fin way.startIndexMap.length) :
    way.siIdx (ix3 b d q) k = ix4 b d q 0 := by
  funext a
  refine Fin.ext ?_
  match a with
  | ⟨0, _⟩ => rfl
  | ⟨1, _⟩ => rfl
  | ⟨2, _⟩ => rfl
  | ⟨3, _⟩ => exact Nat.lt_one_iff.mp k.isLt

theorem way_at (b : Fin 256) (d : Fin 1024) (q : Fin 150) (w : IVec S256x1024x150x1 32) (p : Fin 225)
    (hp : (w (ix4 b d q 0)).toInt.toNat = p.val) : way.operandIdx (ix3 b d q) w = ix3 b d p := by
  funext a
  refine Fin.ext ?_
  match a with
  | ⟨0, _⟩ =>
    show way.start (ix3 b d q) w 0 + way.batchCoord (ix3 b d q) 0 + way.offCoord (ix3 b d q) 0 = b.val
    rw [way.start_batching _ _ _ (by decide), way.offCoord_eq_zero _ _ (by decide)]
    exact Nat.zero_add _
  | ⟨1, _⟩ =>
    show way.start (ix3 b d q) w 1 + way.batchCoord (ix3 b d q) 1 + way.offCoord (ix3 b d q) 1 = d.val
    rw [way.start_batching _ _ _ (by decide), way.offCoord_eq_zero _ _ (by decide)]
    exact Nat.zero_add _
  | ⟨2, _⟩ =>
    show way.start (ix3 b d q) w 2 + way.batchCoord (ix3 b d q) 2 + way.offCoord (ix3 b d q) 2 = p.val
    rw [way.batchCoord_eq_zero _ _ (by decide), way.offCoord_eq_zero _ _ (by decide)]
    unfold GatherDims.start
    rw [dif_pos (by decide), way_word, hp]
    have := p.isLt
    show min p.val (225 - 1) = p.val
    omega

/-- The index word of each of the 150 places of a patch, the same for all its 1024 entries. -/
def spread (k : IVec S256x25x6 32) : IVec S256x1024x150 32 :=
  shapeCast _ (broadcastInDim S256x1024x25x6 ![0, 1, 2, 3] bcast_S256x1x25x6_S256x1024x25x6_0_1_2_3
    (broadcastInDim S256x1x25x6 ![0, 2, 3] bcast_S256x25x6_S256x1x25x6_0_2_3 k)) shapeCasts_S256x1024x25x6_S256x1024x150

theorem spread_at (k : IVec S256x25x6 32) (b : Fin 256) (d : Fin 1024) (q : Fin 150) :
    spread k (ix3 b d q) = k (ix3 b ⟨q / 6, by omega⟩ ⟨q % 6, by omega⟩) := by
  pointwise [spread]

/-- The index words as the gather takes them: a negative one would count from the end. -/
def words (k : IVec S256x1024x150 32) : IVec S256x1024x150x1 32 :=
  shapeCast _ (select (cmpi .slt k (broadcastInDim S256x1024x150 ![] bcast_S_S256x1024x150 (constantI S_ 32 0#32)))
    (addi k (broadcastInDim S256x1024x150 ![] bcast_S_S256x1024x150 (constantI S_ 32 225#32))) k)
    shapeCasts_S256x1024x150_S256x1024x150x1

theorem toInt_small (p : Nat) (hp : p < 225) : (BitVec.ofNat 32 p).toInt = p := by
  have h : (BitVec.ofNat 32 p).toNat = p := by
    rw [BitVec.toNat_ofNat]
    exact Nat.mod_eq_of_lt (by omega)
  rw [BitVec.toInt_eq_toNat_of_lt (by omega), h]

theorem words_at (k : IVec S256x1024x150 32) (b : Fin 256) (d : Fin 1024) (q : Fin 150) (p : Nat) (hp : p < 225)
    (hk : k (ix3 b d q) = BitVec.ofNat 32 p) : words k (ix4 b d q 0) = BitVec.ofNat 32 p := by
  have e : words k (ix4 b d q 0) = Scalar.select (IntOp.cmpi .slt (k (ix3 b d q)) 0#32) (IntOp.addi (k (ix3 b d q)) 225#32) (k (ix3 b d q)) := by
    pointwise [words]
  have n : (BitVec.ofNat 32 p).slt 0#32 = false := by
    unfold BitVec.slt
    rw [toInt_small p hp]
    simp
  rw [e, hk]
  simp [IntOp.cmpi, n, Scalar.select]

theorem nth_lt (x : FVec Ideal S25x64x64x64 .f32) (b u k : Nat) : nth x b u k < 225 := Fin.isLt _

/-- The picked candidates of every patch. -/
def picked (c : FVec Ideal S256x1024x225 .f32) (k : IVec S256x25x6 32) : FVec Ideal S256x1024x150 .f32 :=
  Host.gather way c (words (spread k))

theorem picked_at (x : FVec Ideal S25x64x64x64 .f32) (b : Fin 256) (d : Fin 1024) (q : Fin 150)
    (hx : ∀ p : Fin 225, dst x b (q / 6 : Nat) p ≠ ⊤) :
    picked (cands x) (top x) (ix3 b d q) = cnd x b d (nth x b (q / 6 : Nat) (q % 6 : Nat)) := by
  have hw := words_at (spread (top x)) b d q (nth x b (q / 6 : Nat) (q % 6 : Nat)) (nth_lt _ _ _ _) (by
    rw [spread_at]; exact top_at x b ⟨q / 6, by omega⟩ ⟨q % 6, by omega⟩ hx)
  unfold picked Host.gather
  rw [way_at b d q _ ⟨nth x b (q / 6 : Nat) (q % 6 : Nat), nth_lt _ _ _ _⟩ ?_]
  · exact cands_at x b d _
  · rw [hw]
    rw [toInt_small _ (nth_lt _ _ _ _)]
    rfl

/-- The picked candidates folded back into images of 384 channels. -/
def folded (g : FVec Ideal S256x1024x150 .f32) : FVec Ideal S25x384x64x64 .f32 :=
  shapeCast _ (transpose S25x6x64x16x4x16x4 [5, 6, 2, 0, 3, 1, 4] (shapeCast _ g shapeCasts_S256x1024x150_S16x16x64x4x4x25x6)
    transposes_S16x16x64x4x4x25x6_S25x6x64x16x4x16x4_5_6_2_0_3_1_4) shapeCasts_S25x6x64x16x4x16x4_S25x384x64x64

theorem folded_at (g : FVec Ideal S256x1024x150 .f32) (u : Fin 25) (r : Fin 384) (h w : Fin 64) :
    folded g (ix4 u r h w) = g (ix3 ⟨16 * (h / 4) + w / 4, by omega⟩ ⟨16 * (r % 64) + (4 * (h % 4) + w % 4), by omega⟩
      ⟨6 * u + r / 64, by omega⟩) := by
  pointwise [folded]
  congr 1
  idx_ext <;> dsimp only <;> omega

end Cert.ReferenceIdeal.Gather
-- ==== Proof.RefConv.lean ====
/- The reference's two convolutions: the mixing of the picked candidates, and the nine taps over both images. -/
module

public import proofs.«01_k».proof.Proof.RefGather

@[expose] public section

set_option maxRecDepth 16384

noncomputable section

namespace Cert.ReferenceIdeal.Conv

open Idealize.ShloMosaic Idealize.SL.Sem
open Cert.ReferenceIdeal Cert.ReferenceIdeal.Gen Cert.ReferenceIdeal.Value Cert.Spec Cert.Pick Cert.ReferenceIdeal.Picks
open Cert.ReferenceIdeal.Gather

/-- The leaky rectifier of a whole array. -/
def rect (v : FVec Ideal S25x64x64x64 .f32) : FVec Ideal S25x64x64x64 .f32 :=
  select (cmpf .oge v (broadcastInDim S25x64x64x64 ![] bcast_S_S25x64x64x64 (constant S_ .f32 0x00000000#32))) v
    (mulf (broadcastInDim S25x64x64x64 ![] bcast_S_S25x64x64x64 (constant S_ .f32 0x3DCCCCCD#32)) v)

theorem rect_at (v : FVec Ideal S25x64x64x64 .f32) (u : Fin 25) (o h w : Fin 64) :
    rect v (ix4 u o h w) = lrelu (v (ix4 u o h w)) := by
  have e : rect v (ix4 u o h w) = Scalar.select (Ideal.cmp .oge (v (ix4 u o h w)) (Ideal.ofBits .f32 0x00000000#32)) (v (ix4 u o h w))
      (Ideal.ofBits .f32 0x3DCCCCCD#32 * v (ix4 u o h w)) := by
    pointwise [rect]
  rw [e, Ideal.ofBits_zero]
  unfold lrelu Ideal.cmp Scalar.select
  by_cases hz : (0 : EReal) ≤ v (ix4 u o h w) <;> simp [hz]

/-- The 1×1 convolution. -/
def mixing (g : FVec Ideal S25x384x64x64 .f32) (w1 : FVec Ideal S64x384x1x1 .f32) : FVec Ideal S25x64x64x64 .f32 :=
  transpose S25x64x64x64 [0, 3, 1, 2] (Host.dotGeneral dot_S25x384x64x64_S64x384_S25x64x64x64_1_1_023_0_n_n none g
    (shapeCast _ w1 shapeCasts_S64x384x1x1_S64x384)) transposes_S25x64x64x64_S25x64x64x64_0_3_1_2

theorem mixing_at (g : FVec Ideal S25x384x64x64 .f32) (w1 : FVec Ideal S64x384x1x1 .f32) (u : Fin 25) (o h w : Fin 64) :
    mixing g w1 (ix4 u o h w) = ∑ r : Fin 384, w1 (ix4 o r 0 0) * g (ix4 u r h w) := by
  pointwise [mixing]
  refine Finset.sum_congr rfl fun r _ => mul_comm _ _

/-- The two images side by side with an edge of zeros. -/
def framed (x y : FVec Ideal S25x64x64x64 .f32) : FVec Ideal S25x128x66x66 .f32 :=
  pad S25x128x66x66 ![0, 0, 1, 1] ![0, 0, 1, 1] ![0, 0, 0, 0]
    (concatenate S25x128x64x64 1 [⟨S25x64x64x64, x⟩, ⟨S25x64x64x64, y⟩] concatenates_S25x64x64x64_S25x64x64x64_S25x128x64x64_d1)
    (sitofp .f32 (constantI S_ 32 0#32)) pads_S25x128x64x64_S25x128x66x66_000_000_110_110 h_S_

theorem blank : FloatOps.sitofp (F := Ideal) .f32 (0#32) = (0 : EReal) := by
  show (((0#32).toInt : ℝ) : EReal) = 0
  simp

theorem framed_at (x y : FVec Ideal S25x64x64x64 .f32) (u : Fin 25) (ch : Fin 128) (h w : Fin 66) :
    framed x y (ix4 u ch h w) = if hw : 1 ≤ h.val ∧ h.val ≤ 64 ∧ 1 ≤ w.val ∧ w.val ≤ 64 then
      (if hc : ch.val < 64 then x (ix4 u ⟨ch, hc⟩ ⟨h - 1, by omega⟩ ⟨w - 1, by omega⟩)
        else y (ix4 u ⟨ch - 64, by omega⟩ ⟨h - 1, by omega⟩ ⟨w - 1, by omega⟩)) else 0 := by
  pointwise [framed]
  by_cases hw : 1 ≤ h.val ∧ h.val ≤ 64 ∧ 1 ≤ w.val ∧ w.val ≤ 64
  · rw [dif_pos (by omega), dif_pos hw]
  · rw [dif_neg (by omega), dif_neg hw]
    exact blank

theorem window_at (P : FVec Ideal S25x128x66x66 .f32) (dy dx : Fin 3) (hs : S25x128x66x66.Slices ![0, 0, dy.val, dx.val] S25x128x64x64)
    (u : Fin 25) (ch : Fin 128) (h w : Fin 64) :
    extractStridedSlice S25x128x64x64 ![0, 0, dy.val, dx.val] P hs (ix4 u ch h w)
      = P (ix4 u ch ⟨h + dy, by omega⟩ ⟨w + dx, by omega⟩) := by
  refine congrArg P ?_
  funext a
  match a with
  | ⟨0, _⟩ => exact Fin.ext (Nat.zero_add _)
  | ⟨1, _⟩ => exact Fin.ext (Nat.zero_add _)
  | ⟨2, _⟩ => exact Fin.ext (Nat.add_comm _ _)
  | ⟨3, _⟩ => exact Fin.ext (Nat.add_comm _ _)

theorem weight_at (w2 : FVec Ideal S64x128x3x3 .f32) (dy dx : Fin 3) (hs : S64x128x3x3.Slices ![0, 0, dy.val, dx.val] S64x128x1x1)
    (o : Fin 64) (ch : Fin 128) :
    extractStridedSlice S64x128x1x1 ![0, 0, dy.val, dx.val] w2 hs (ix4 o ch 0 0) = w2 (ix4 o ch dy dx) := by
  refine congrArg w2 ?_
  funext a
  match a with
  | ⟨0, _⟩ => exact Fin.ext (Nat.zero_add _)
  | ⟨1, _⟩ => exact Fin.ext (Nat.zero_add _)
  | ⟨2, _⟩ => exact Fin.ext (Nat.add_zero _)
  | ⟨3, _⟩ => exact Fin.ext (Nat.add_zero _)

/-- A window of the framed images against one weight of each filter. -/
def against (P : FVec Ideal S25x128x64x64 .f32) (q : FVec Ideal S64x128x1x1 .f32) : FVec Ideal S25x64x64x64 .f32 :=
  transpose S25x64x64x64 [0, 3, 1, 2] (Host.dotGeneral dot_S25x128x64x64_S64x128_S25x64x64x64_1_1_023_0_n_n none P
    (shapeCast _ q shapeCasts_S64x128x1x1_S64x128)) transposes_S25x64x64x64_S25x64x64x64_0_3_1_2

theorem against_at (P : FVec Ideal S25x128x64x64 .f32) (q : FVec Ideal S64x128x1x1 .f32) (u : Fin 25) (o h w : Fin 64) :
    against P q (ix4 u o h w) = ∑ ch : Fin 128, q (ix4 o ch 0 0) * P (ix4 u ch h w) := by
  pointwise [against]
  refine Finset.sum_congr rfl fun r _ => mul_comm _ _

/-! ## The mended image and the nine taps -/

/-- The image made of the mixed patches. -/
def mended (x : FVec Ideal S25x64x64x64 .f32) (w1 : FVec Ideal S64x384x1x1 .f32) : FVec Ideal S25x64x64x64 .f32 :=
  rect (mixing (folded (picked (cands x) (top x))) w1)

theorem mended_at (x : FVec Ideal S25x64x64x64 .f32) (w1 : FVec Ideal S64x384x1x1 .f32)
    (hx : ∀ b u p : Nat, dst x b u p ≠ ⊤) (u : Fin 25) (o h w : Fin 64) :
    mended x w1 (ix4 u o h w) = mend x w1 u o h w := by
  rw [mended, rect_at, mixing_at, mend, mixed]
  refine congrArg lrelu (Finset.sum_congr rfl fun r _ => ?_)
  rw [folded_at, picked_at x _ _ _ (fun p => hx _ _ _)]
  dsimp only
  rw [show (6 * u.val + r.val / 64) / 6 = u.val by omega, show (6 * u.val + r.val / 64) % 6 = r.val / 64 by omega]

/-- One tap. -/
def tapped (P : FVec Ideal S25x128x66x66 .f32) (w2 : FVec Ideal S64x128x3x3 .f32) (dy dx : Fin 3)
    (hs : S25x128x66x66.Slices ![0, 0, dy.val, dx.val] S25x128x64x64) (hq : S64x128x3x3.Slices ![0, 0, dy.val, dx.val] S64x128x1x1) :
    FVec Ideal S25x64x64x64 .f32 :=
  against (extractStridedSlice S25x128x64x64 ![0, 0, dy.val, dx.val] P hs) (extractStridedSlice S64x128x1x1 ![0, 0, dy.val, dx.val] w2 hq)

theorem tapped_at (x : FVec Ideal S25x64x64x64 .f32) (w1 : FVec Ideal S64x384x1x1 .f32) (w2 : FVec Ideal S64x128x3x3 .f32)
    (hx : ∀ b u p : Nat, dst x b u p ≠ ⊤) (dy dx : Fin 3)
    (hs : S25x128x66x66.Slices ![0, 0, dy.val, dx.val] S25x128x64x64) (hq : S64x128x3x3.Slices ![0, 0, dy.val, dx.val] S64x128x1x1)
    (u : Fin 25) (o h w : Fin 64) :
    tapped (framed x (mended x w1)) w2 dy dx hs hq (ix4 u o h w) = tap x w1 w2 u o h w dy dx := by
  rw [tapped, against_at, tap]
  by_cases hin : 1 ≤ h.val + dy.val ∧ h.val + dy.val ≤ 64 ∧ 1 ≤ w.val + dx.val ∧ w.val + dx.val ≤ 64
  · rw [if_pos hin]
    refine Finset.sum_congr rfl fun ch _ => ?_
    rw [window_at, weight_at, framed_at, dif_pos hin, both]
    by_cases hc : ch.val < 64
    · rw [dif_pos hc, if_pos hc, px_eq x]
    · rw [dif_neg hc, if_neg hc, mended_at x w1 hx]
  · rw [if_neg hin]
    refine Finset.sum_eq_zero fun ch _ => ?_
    rw [window_at, framed_at, dif_neg hin, mul_zero]

/-- The nine taps summed and rectified. -/
def total (P : FVec Ideal S25x128x66x66 .f32) (w2 : FVec Ideal S64x128x3x3 .f32) : FVec Ideal S25x64x64x64 .f32 :=
  addf (addf (addf (addf (addf (addf (addf (addf (addf
    (broadcastInDim S25x64x64x64 ![] bcast_S_S25x64x64x64 (constant S_ .f32 0x00000000#32))
    (tapped P w2 0 0 slices_S25x128x66x66_S25x128x64x64_0_0_0_0 slices_S64x128x3x3_S64x128x1x1_0_0_0_0))
    (tapped P w2 0 1 slices_S25x128x66x66_S25x128x64x64_0_0_0_1 slices_S64x128x3x3_S64x128x1x1_0_0_0_1))
    (tapped P w2 0 2 slices_S25x128x66x66_S25x128x64x64_0_0_0_2 slices_S64x128x3x3_S64x128x1x1_0_0_0_2))
    (tapped P w2 1 0 slices_S25x128x66x66_S25x128x64x64_0_0_1_0 slices_S64x128x3x3_S64x128x1x1_0_0_1_0))
    (tapped P w2 1 1 slices_S25x128x66x66_S25x128x64x64_0_0_1_1 slices_S64x128x3x3_S64x128x1x1_0_0_1_1))
    (tapped P w2 1 2 slices_S25x128x66x66_S25x128x64x64_0_0_1_2 slices_S64x128x3x3_S64x128x1x1_0_0_1_2))
    (tapped P w2 2 0 slices_S25x128x66x66_S25x128x64x64_0_0_2_0 slices_S64x128x3x3_S64x128x1x1_0_0_2_0))
    (tapped P w2 2 1 slices_S25x128x66x66_S25x128x64x64_0_0_2_1 slices_S64x128x3x3_S64x128x1x1_0_0_2_1))
    (tapped P w2 2 2 slices_S25x128x66x66_S25x128x64x64_0_0_2_2 slices_S64x128x3x3_S64x128x1x1_0_0_2_2)

theorem nine (f : Fin 9 → EReal) : ∑ t, f t = 0 + f 0 + f 1 + f 2 + f 3 + f 4 + f 5 + f 6 + f 7 + f 8 := by
  simp only [Fin.sum_univ_succ, Fin.sum_univ_zero, add_zero, zero_add, ← add_assoc]
  rfl

theorem total_at (x : FVec Ideal S25x64x64x64 .f32) (w1 : FVec Ideal S64x384x1x1 .f32) (w2 : FVec Ideal S64x128x3x3 .f32)
    (hx : ∀ b u p : Nat, dst x b u p ≠ ⊤) (u : Fin 25) (o h w : Fin 64) :
    rect (total (framed x (mended x w1)) w2) (ix4 u o h w) = out x w1 w2 (ix4 u o h w) := by
  rw [rect_at, out, nine]
  refine congrArg lrelu ?_
  have e : total (framed x (mended x w1)) w2 (ix4 u o h w) = Ideal.ofBits .f32 0x00000000#32
      + tap x w1 w2 u o h w 0 0 + tap x w1 w2 u o h w 0 1 + tap x w1 w2 u o h w 0 2
      + tap x w1 w2 u o h w 1 0 + tap x w1 w2 u o h w 1 1 + tap x w1 w2 u o h w 1 2
      + tap x w1 w2 u o h w 2 0 + tap x w1 w2 u o h w 2 1 + tap x w1 w2 u o h w 2 2 := by
    simp only [← tapped_at x w1 w2 hx 0 0 slices_S25x128x66x66_S25x128x64x64_0_0_0_0 slices_S64x128x3x3_S64x128x1x1_0_0_0_0,
      ← tapped_at x w1 w2 hx 0 1 slices_S25x128x66x66_S25x128x64x64_0_0_0_1 slices_S64x128x3x3_S64x128x1x1_0_0_0_1,
      ← tapped_at x w1 w2 hx 0 2 slices_S25x128x66x66_S25x128x64x64_0_0_0_2 slices_S64x128x3x3_S64x128x1x1_0_0_0_2,
      ← tapped_at x w1 w2 hx 1 0 slices_S25x128x66x66_S25x128x64x64_0_0_1_0 slices_S64x128x3x3_S64x128x1x1_0_0_1_0,
      ← tapped_at x w1 w2 hx 1 1 slices_S25x128x66x66_S25x128x64x64_0_0_1_1 slices_S64x128x3x3_S64x128x1x1_0_0_1_1,
      ← tapped_at x w1 w2 hx 1 2 slices_S25x128x66x66_S25x128x64x64_0_0_1_2 slices_S64x128x3x3_S64x128x1x1_0_0_1_2,
      ← tapped_at x w1 w2 hx 2 0 slices_S25x128x66x66_S25x128x64x64_0_0_2_0 slices_S64x128x3x3_S64x128x1x1_0_0_2_0,
      ← tapped_at x w1 w2 hx 2 1 slices_S25x128x66x66_S25x128x64x64_0_0_2_1 slices_S64x128x3x3_S64x128x1x1_0_0_2_1,
      ← tapped_at x w1 w2 hx 2 2 slices_S25x128x66x66_S25x128x64x64_0_0_2_2 slices_S64x128x3x3_S64x128x1x1_0_0_2_2]
    rfl
  rw [e, Ideal.ofBits_zero]
  rfl

end Cert.ReferenceIdeal.Conv
-- ==== Proof.Finite.lean ====
/- On an image of finite pixels every squared distance is finite. -/
module

public import proofs.«01_k».proof.Proof.Spec

@[expose] public section

noncomputable section

namespace Cert.Finite

open Idealize.ShloMosaic Cert.Spec

/-- A value that is a real number. -/
def IsReal (z : EReal) : Prop := ∃ r : ℝ, z = (r : EReal)

theorem real_add {y z : EReal} : IsReal y → IsReal z → IsReal (y + z) := by
  rintro ⟨r, rfl⟩ ⟨s, rfl⟩
  exact ⟨r + s, (EReal.coe_add r s).symm⟩

theorem real_mul {y z : EReal} : IsReal y → IsReal z → IsReal (y * z) := by
  rintro ⟨r, rfl⟩ ⟨s, rfl⟩
  exact ⟨r * s, (EReal.coe_mul r s).symm⟩

theorem real_sum {n : Nat} (f : Fin n → EReal) (h : ∀ i, IsReal (f i)) : IsReal (∑ i, f i) := by
  classical
  have key : ∀ s : Finset (Fin n), IsReal (∑ i ∈ s, f i) := by
    intro s
    induction s using Finset.induction_on with
    | empty => exact ⟨0, by simp⟩
    | insert a s ha ih => rw [Finset.sum_insert ha]; exact real_add (h a) ih
  exact key _

theorem real_minus_two : IsReal (Ideal.ofBits .f32 0xC0000000#32) := by
  refine ⟨-2, ?_⟩
  simp [Ideal.ofBits, Ideal.ieee, -EReal.coe_mul, -EReal.coe_neg]
  norm_num

theorem dst_ne_top (x : Img.Idx → EReal) (hx : ∀ i, IsReal (x i)) (b u p : Nat) : dst x b u p ≠ ⊤ := by
  have hq : ∀ d, IsReal (qry x b d u) := fun _ => hx _
  have hc : ∀ d, IsReal (cnd x b d p) := fun _ => hx _
  obtain ⟨r, hr⟩ : IsReal (dst x b u p) :=
    real_add (real_add (real_mul real_minus_two (real_sum _ fun d => real_mul (hc d) (hq d)))
      (real_sum _ fun d => real_mul (hq d) (hq d))) (real_sum _ fun d => real_mul (hc d) (hc d))
  rw [hr]
  exact EReal.coe_ne_top r

end Cert.Finite
-- ==== Proof.RefValue.lean ====
/- The reference's result as the specification's function of the three inputs. -/
module

public import proofs.«01_k».proof.Proof.RefConv
public import proofs.«01_k».proof.Proof.Finite

@[expose] public section

set_option maxRecDepth 16384

noncomputable section

namespace Cert.ReferenceIdeal.Total

open Idealize.ShloMosaic Idealize.SL.Sem
open Cert.ReferenceIdeal Cert.ReferenceIdeal.Gen Cert.ReferenceIdeal.Value Cert.Spec Cert.ReferenceIdeal.Patch
open Cert.ReferenceIdeal.Picks Cert.ReferenceIdeal.Gather Cert.ReferenceIdeal.Conv

variable (V : Valuation τ sig (Elt Ideal))

abbrev image : FVec Ideal S25x64x64x64 .f32 := V (Proc.devRef .tc main_arg0)
abbrev mix : FVec Ideal S64x384x1x1 .f32 := V (Proc.devRef .tc main_arg1)
abbrev taps : FVec Ideal S64x128x3x3 .f32 := V (Proc.devRef .tc main_arg2)

theorem v2_eq : res_main_v2 V = patch (image V) := rfl
theorem v6_eq : res_main_v6 V = moves (image V) 0 := rfl
theorem v24_eq : res_main_v24 V = moves (image V) 1 := rfl
theorem v42_eq : res_main_v42 V = moves (image V) 2 := rfl
theorem v60_eq : res_main_v60 V = moves (image V) 3 := rfl
theorem v78_eq : res_main_v78 V = moves (image V) 4 := rfl
theorem v96_eq : res_main_v96 V = moves (image V) 5 := rfl
theorem v114_eq : res_main_v114 V = moves (image V) 6 := rfl
theorem v132_eq : res_main_v132 V = moves (image V) 7 := rfl
theorem v150_eq : res_main_v150 V = moves (image V) 8 := rfl

theorem v166_eq : res_main_v166 V = dists (image V) := by
  unfold res_main_v166 res_main_v7 res_main_v25 res_main_v43 res_main_v61 res_main_v79 res_main_v97 res_main_v115 res_main_v133
    res_main_v151 dists Patch.dist
  simp only [v2_eq, v6_eq, v24_eq, v42_eq, v60_eq, v78_eq, v96_eq, v114_eq, v132_eq, v150_eq]

theorem v170_eq : res_main_v170 V = spread (top (image V)) := by
  unfold res_main_v170 res_main_v167 spread top
  rw [v166_eq]
  rfl

theorem v177_eq : res_main_v177 V = mixing (folded (picked (cands (image V)) (top (image V)))) (mix V) := by
  unfold res_main_v177 mixing folded picked words cands
  rw [v170_eq]
  simp only [v6_eq, v24_eq, v42_eq, v60_eq, v78_eq, v96_eq, v114_eq, v132_eq, v150_eq]

theorem v184_eq : res_main_v184 V = framed (image V) (mended (image V) (mix V)) := by
  unfold res_main_v184 framed mended rect
  rw [v177_eq]

theorem v239_eq : res_main_v239 V = total (framed (image V) (mended (image V) (mix V))) (taps V) := by
  unfold res_main_v239
  rw [v184_eq]
  rfl

/-- The reference's result, when no distance is infinite. -/
theorem value (hx : ∀ b u p : Nat, dst (image V) b u p ≠ ⊤) :
    rect (res_main_v239 V) = out (image V) (mix V) (taps V) := by
  rw [v239_eq]
  funext i
  idx_vars i
  exact total_at _ _ _ hx _ _ _ _

end Cert.ReferenceIdeal.Total
-- ==== Proof.Equal.lean ====
/- The two programs compute the same array from an image of finite pixels. -/
module

public import proofs.«01_k».proof.Defs
public import proofs.«01_k».proof.Proof.KernelRun
public import proofs.«01_k».proof.Proof.RefValue

@[expose] public section

noncomputable section

namespace Cert.Proof

open Idealize.ShloMosaic Idealize.SL.Sem
open Cert.Finite

theorem finite_facts : Cert.Pre_finite.Facts := ⟨by decide⟩

theorem ofBits_infinity : Ideal.ofBits .f32 0x7F800000#32 = (⊤ : EReal) := by simp [Ideal.ofBits, Ideal.ieee]

/-- A value whose size is below infinity is a real number. -/
theorem real_of_abs_lt (z : EReal) (h : Ideal.cmp .olt (max z (-z)) ⊤ = 1#1) : IsReal z := by
  have hlt : max z (-z) < ⊤ := by
    by_contra hn
    simp [Ideal.cmp, hn] at h
  induction z with
  | bot => simp at hlt
  | top => simp at hlt
  | coe r => exact ⟨r, rfl⟩

/-- The precondition says of each pixel that it is a real number. -/
theorem real_of_pre (x : FVec Ideal Cert.Pre_finite.S25x64x64x64 .f32) (w1 : FVec Ideal Cert.Pre_finite.S64x384x1x1 .f32)
    (w2 : FVec Ideal Cert.Pre_finite.S64x128x3x3 .f32)
    (h : @Cert.Pre_finite.fn finite_facts Ideal _ x w1 w2 = fun _ => 1#1) (i : Cert.Spec.Img.Idx) : IsReal (x i) := by
  have e : Ideal.cmp .olt (max (x i) (-(x i))) (Ideal.ofBits .f32 0x7F800000#32) = 1#1 := congrFun h i
  rw [ofBits_infinity] at e
  exact real_of_abs_lt (x i) e

/-- The result of both programs on one device, as a function of what its memory holds at the start. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v28) :=
  Cert.Spec.out (Cert.KernelIdeal.Host.arg0 m c) (Cert.KernelIdeal.Host.arg1 m c) (Cert.KernelIdeal.Host.arg2 m c)

/-- The kernel and the reference, started on the same finite image and the same weights, end with the same array. -/
theorem algebraic : algebraic_KernelIdeal_ReferenceIdeal_pre_finite (hKernelIdeal := Cert.KernelIdeal.Gen.facts)
    (hReferenceIdeal := Cert.ReferenceIdeal.Gen.facts) (hPre_finite := finite_facts) := by
  intro m g m' g' hpre hargs
  refine ⟨result m, Cert.KernelIdeal.Result.run m g, ?_⟩
  refine (θ_run _ _ _).mono (fun r h c => ⟨(h c).1.trans ?_, (h c).2⟩) (Cert.ReferenceIdeal.Value.run m' g')
  obtain ⟨h0, h1, h2⟩ := hargs c
  have hx : ∀ b u p : Nat, Cert.Spec.dst (Cert.KernelIdeal.Host.arg0 m c) b u p ≠ ⊤ :=
    fun b u p => dst_ne_top _ (real_of_pre _ _ _ (hpre c)) b u p
  have e0 : Cert.ReferenceIdeal.Total.image (StableHlo.launchContents m' c) = Cert.KernelIdeal.Host.arg0 m c := h0
  have e1 : Cert.ReferenceIdeal.Total.mix (StableHlo.launchContents m' c) = Cert.KernelIdeal.Host.arg1 m c := h1
  have e2 : Cert.ReferenceIdeal.Total.taps (StableHlo.launchContents m' c) = Cert.KernelIdeal.Host.arg2 m c := h2
  have v := Cert.ReferenceIdeal.Total.value (StableHlo.launchContents m' c) (by rw [e0]; exact hx)
  rw [e0, e1, e2] at v
  exact v

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, finite_facts,
  frame_kernel, frame_ideal, fun m g _ => frame_ideal m g trivial, frame_reference, fun m g _ => frame_reference m g trivial,
  preserves, algebraic⟩

end Cert.Proof

end
